-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_apart [hPre_finite_and_apart : Cert.Pre_finite_and_apart.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_apart.fn (F := Ideal) (m ((c.tc : Thread Cert.KernelIdeal.nD Cert.KernelIdeal.τ).loc Cert.KernelIdeal.main_arg0))).1 = (fun _ => 1#1)
    ∧ (Cert.Pre_finite_and_apart.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_apart [hPre_finite_and_apart : Cert.Pre_finite_and_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_apart.fn (F := Ideal) (m ((c.tc : Thread Cert.ReferenceIdeal.nD Cert.ReferenceIdeal.τ).loc Cert.ReferenceIdeal.main_arg0))).1 = (fun _ => 1#1)
    ∧ (Cert.Pre_finite_and_apart.fn (F := Ideal) (m ((c.tc : Thread Cert.ReferenceIdeal.nD Cert.ReferenceIdeal.τ).loc Cert.ReferenceIdeal.main_arg0))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_and_apart [hKernelIdeal : Cert.KernelIdeal.Facts] [hPre_finite_and_apart : Cert.Pre_finite_and_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_and_apart [hReferenceIdeal : Cert.ReferenceIdeal.Facts] [hPre_finite_and_apart : Cert.Pre_finite_and_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_and_apart [hKernelIdeal : Cert.KernelIdeal.Facts] [hReferenceIdeal : Cert.ReferenceIdeal.Facts] [hPre_finite_and_apart : Cert.Pre_finite_and_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_and_apart : Cert.Pre_finite_and_apart.Facts),
    quiescent_Kernel (hKernel := hKernel)
    ∧ quiescent_KernelIdeal (hKernelIdeal := hKernelIdeal)
    ∧ quiescent_KernelIdeal_pre_finite_and_apart (hKernelIdeal := hKernelIdeal) (hPre_finite_and_apart := hPre_finite_and_apart)
    ∧ quiescent_ReferenceIdeal (hReferenceIdeal := hReferenceIdeal)
    ∧ quiescent_ReferenceIdeal_pre_finite_and_apart (hReferenceIdeal := hReferenceIdeal) (hPre_finite_and_apart := hPre_finite_and_apart)
    ∧ preserves_Kernel_KernelIdeal
    ∧ algebraic_KernelIdeal_ReferenceIdeal_pre_finite_and_apart (hKernelIdeal := hKernelIdeal) (hReferenceIdeal := hReferenceIdeal) (hPre_finite_and_apart := hPre_finite_and_apart)
-- ==== Pre_finite_and_apart.lean ====
abbrev S2x8192x3 : Shape := ⟨3, ![2, 8192, 3]⟩
abbrev S32x512x3 : Shape := ⟨3, ![32, 512, 3]⟩
abbrev S32x512x1x3 : Shape := ⟨4, ![32, 512, 1, 3]⟩
abbrev S32x1x512x3 : Shape := ⟨4, ![32, 1, 512, 3]⟩
abbrev S32x512x512x3 : Shape := ⟨4, ![32, 512, 512, 3]⟩
abbrev S_ : Shape := ⟨0, ![]⟩
abbrev S32x512x512 : Shape := ⟨3, ![32, 512, 512]⟩
abbrev S512 : Shape := ⟨1, ![512]⟩
abbrev S32x512x512x1 : Shape := ⟨4, ![32, 512, 512, 1]⟩
abbrev S32x512x1x512 : Shape := ⟨4, ![32, 512, 1, 512]⟩
abbrev S32x512x512x512 : Shape := ⟨4, ![32, 512, 512, 512]⟩
abbrev S512x1 : Shape := ⟨2, ![512, 1]⟩
abbrev S1x512 : Shape := ⟨2, ![1, 512]⟩
abbrev S512x512 : Shape := ⟨2, ![512, 512]⟩
abbrev S1x1x512x512 : Shape := ⟨4, ![1, 1, 512, 512]⟩

class Facts : Prop where
  shapeCasts_S2x8192x3_S32x512x3 : S2x8192x3.ShapeCasts S32x512x3
  bcast_S32x512x3_S32x512x1x3_0_1_3 : S32x512x3.BroadcastsInDim S32x512x1x3 (![0, 1, 3] : Fin 3 → Fin S32x512x1x3.rank)
  bcast_S32x512x3_S32x1x512x3_0_2_3 : S32x512x3.BroadcastsInDim S32x1x512x3 (![0, 2, 3] : Fin 3 → Fin S32x1x512x3.rank)
  bcast_S32x512x1x3_S32x512x512x3_0_1_2_3 : S32x512x1x3.BroadcastsInDim S32x512x512x3 (![0, 1, 2, 3] : Fin 4 → Fin S32x512x512x3.rank)
  bcast_S32x1x512x3_S32x512x512x3_0_1_2_3 : S32x1x512x3.BroadcastsInDim S32x512x512x3 (![0, 1, 2, 3] : Fin 4 → Fin S32x512x512x3.rank)
  reducesTo_S32x512x512x3_S32x512x512_d3 : S32x512x512x3.ReducesTo [3] S32x512x512
  h_S_ : 0 < S_.numel
  bcast_S32x512x512_S32x512x512x1_0_1_2 : S32x512x512.BroadcastsInDim S32x512x512x1 (![0, 1, 2] : Fin 3 → Fin S32x512x512x1.rank)
  bcast_S32x512x512_S32x512x1x512_0_1_3 : S32x512x512.BroadcastsInDim S32x512x1x512 (![0, 1, 3] : Fin 3 → Fin S32x512x1x512.rank)
  bcast_S32x512x512x1_S32x512x512x512_0_1_2_3 : S32x512x512x1.BroadcastsInDim S32x512x512x512 (![0, 1, 2, 3] : Fin 4 → Fin S32x512x512x512.rank)
  bcast_S32x512x1x512_S32x512x512x512_0_1_2_3 : S32x512x1x512.BroadcastsInDim S32x512x512x512 (![0, 1, 2, 3] : Fin 4 → Fin S32x512x512x512.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S1x1x512x512_2_3 : S512x512.BroadcastsInDim S1x1x512x512 (![2, 3] : Fin 2 → Fin S1x1x512x512.rank)
  bcast_S1x1x512x512_S32x512x512x512_0_1_2_3 : S1x1x512x512.BroadcastsInDim S32x512x512x512 (![0, 1, 2, 3] : Fin 4 → Fin S32x512x512x512.rank)
  bcast_S_S2x8192x3 : S_.BroadcastsInDim S2x8192x3 (![] : Fin 0 → Fin S2x8192x3.rank)

variable [Facts]

def fn_part1 {F : FTy → Type} [FloatOps F] (main_v21 : IVec S32x512x512x512 1) (main_v22 : FVec F S2x8192x3 .f32) : IVec S2x8192x3 1 × IVec S32x512x512x512 1 :=
  let main_cst_0 : FVec F S_ .f32 := constant S_ .f32 0x7F800000#32
  let main_v23 : FVec F S2x8192x3 .f32 := broadcastInDim S2x8192x3 ![] bcast_S_S2x8192x3 main_cst_0
  let main_v24 : IVec S2x8192x3 1 := cmpf .olt main_v22 main_v23
  (main_v24, main_v21)

def fn {F : FTy → Type} [FloatOps F] (main_arg0 : FVec F S2x8192x3 .f32) : IVec S2x8192x3 1 × IVec S32x512x512x512 1 :=
  let main_v0 : FVec F S32x512x3 .f32 := shapeCast S32x512x3 main_arg0 shapeCasts_S2x8192x3_S32x512x3
  let main_v1 : FVec F S32x512x1x3 .f32 := broadcastInDim S32x512x1x3 ![0, 1, 3] bcast_S32x512x3_S32x512x1x3_0_1_3 main_v0
  let main_v2 : FVec F S32x1x512x3 .f32 := broadcastInDim S32x1x512x3 ![0, 2, 3] bcast_S32x512x3_S32x1x512x3_0_2_3 main_v0
  let main_v3 : FVec F S32x512x512x3 .f32 := broadcastInDim S32x512x512x3 ![0, 1, 2, 3] bcast_S32x512x1x3_S32x512x512x3_0_1_2_3 main_v1
  let main_v4 : FVec F S32x512x512x3 .f32 := broadcastInDim S32x512x512x3 ![0, 1, 2, 3] bcast_S32x1x512x3_S32x512x512x3_0_1_2_3 main_v2
  let main_v5 : FVec F S32x512x512x3 .f32 := subf main_v3 main_v4
  let main_v6 : FVec F S32x512x512x3 .f32 := mulf main_v5 main_v5
  let main_cst : FVec F S_ .f32 := constant S_ .f32 0x00000000#32
  let main_v7 : FVec F S32x512x512 .f32 := (fun x v => Host.reduceAdd x v reducesTo_S32x512x512x3_S32x512x512_d3 h_S_) main_v6 main_cst
  let main_v8 : IVec S512 32 := iotaInDim S512 32 0
  let main_v9 : FVec F S32x512x512x1 .f32 := broadcastInDim S32x512x512x1 ![0, 1, 2] bcast_S32x512x512_S32x512x512x1_0_1_2 main_v7
  let main_v10 : FVec F S32x512x1x512 .f32 := broadcastInDim S32x512x1x512 ![0, 1, 3] bcast_S32x512x512_S32x512x1x512_0_1_3 main_v7
  let main_v11 : FVec F S32x512x512x512 .f32 := broadcastInDim S32x512x512x512 ![0, 1, 2, 3] bcast_S32x512x512x1_S32x512x512x512_0_1_2_3 main_v9
  let main_v12 : FVec F S32x512x512x512 .f32 := broadcastInDim S32x512x512x512 ![0, 1, 2, 3] bcast_S32x512x1x512_S32x512x512x512_0_1_2_3 main_v10
  let main_v13 : IVec S32x512x512x512 1 := cmpf .une main_v11 main_v12
  let main_v14 : IVec S512x1 32 := broadcastInDim S512x1 ![0] bcast_S512_S512x1_0 main_v8
  let main_v15 : IVec S1x512 32 := broadcastInDim S1x512 ![1] bcast_S512_S1x512_1 main_v8
  let main_v16 : IVec S512x512 32 := broadcastInDim S512x512 ![0, 1] bcast_S512x1_S512x512_0_1 main_v14
  let main_v17 : IVec S512x512 32 := broadcastInDim S512x512 ![0, 1] bcast_S1x512_S512x512_0_1 main_v15
  let main_v18 : IVec S512x512 1 := cmpi .eq main_v16 main_v17
  let main_v19 : IVec S1x1x512x512 1 := broadcastInDim S1x1x512x512 ![2, 3] bcast_S512x512_S1x1x512x512_2_3 main_v18
  let main_v20 : IVec S32x512x512x512 1 := broadcastInDim S32x512x512x512 ![0, 1, 2, 3] bcast_S1x1x512x512_S32x512x512x512_0_1_2_3 main_v19
  let main_v21 : IVec S32x512x512x512 1 := ori main_v13 main_v20
  let main_v22 : FVec F S2x8192x3 .f32 := Host.absf main_arg0
  fn_part1 (F := F) main_v21 main_v22
-- ==== Kernel.lean ====
abbrev S2x8192x3 : Shape := ⟨3, ![2, 8192, 3]⟩
abbrev S32x512x3 : Shape := ⟨3, ![32, 512, 3]⟩
abbrev S32x3x512 : Shape := ⟨3, ![32, 3, 512]⟩
abbrev S32x3x512x1 : Shape := ⟨4, ![32, 3, 512, 1]⟩
abbrev S32x1x128 : Shape := ⟨3, ![32, 1, 128]⟩
abbrev S8x3x512 : Shape := ⟨3, ![8, 3, 512]⟩
abbrev S8x3x512x1 : Shape := ⟨4, ![8, 3, 512, 1]⟩
abbrev S8x1x128 : Shape := ⟨3, ![8, 1, 128]⟩
abbrev S1x1x512 : Shape := ⟨3, ![1, 1, 512]⟩
abbrev S1x512 : Shape := ⟨2, ![1, 512]⟩
abbrev S1x1x512x1 : Shape := ⟨4, ![1, 1, 512, 1]⟩
abbrev S512x1 : Shape := ⟨2, ![512, 1]⟩
abbrev S512x512 : Shape := ⟨2, ![512, 512]⟩
abbrev S512 : Shape := ⟨1, ![512]⟩
abbrev S10x512 : Shape := ⟨2, ![10, 512]⟩
abbrev S8x1x512 : Shape := ⟨3, ![8, 1, 512]⟩
abbrev S8x512 : Shape := ⟨2, ![8, 512]⟩
abbrev S8 : Shape := ⟨1, ![8]⟩
abbrev S8x1 : Shape := ⟨2, ![8, 1]⟩
abbrev S1x1x128 : Shape := ⟨3, ![1, 1, 128]⟩
abbrev S8x1x1 : Shape := ⟨3, ![8, 1, 1]⟩
abbrev S32x1x1 : Shape := ⟨3, ![32, 1, 1]⟩
abbrev S32 : Shape := ⟨1, ![32]⟩
abbrev S_ : Shape := ⟨0, ![]⟩

abbrev nBuf : Space → Nat
  | .hbm => 22
  | .vmem => 6
  | .smem => 0
  | _ => 0

abbrev bufTy : (tb : Table) → Fin (tcTables nBuf tb) → BufTy
  | .hbm, ⟨0, _⟩ => ⟨S2x8192x3, .f32⟩
  | .hbm, ⟨1, _⟩ => ⟨S32x512x3, .f32⟩
  | .hbm, ⟨2, _⟩ => ⟨S32x3x512, .f32⟩
  | .hbm, ⟨3, _⟩ => ⟨S32x3x512x1, .f32⟩
  | .hbm, ⟨4, _⟩ => ⟨S32x1x128, .f32⟩
  | .hbm, ⟨5, _⟩ => ⟨S32x1x1, .f32⟩
  | .hbm, ⟨6, _⟩ => ⟨S32, .f32⟩
  | .hbm, ⟨7, _⟩ => ⟨S_, .f32⟩
  | .hbm, ⟨8, _⟩ => ⟨S_, .f32⟩
  | .hbm, ⟨9, _⟩ => ⟨S32x1x1, .f32⟩
  | .hbm, ⟨10, _⟩ => ⟨S32, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S8x3x512, .f32⟩
  | .local _ .vmem, ⟨1, _⟩ => ⟨S8x3x512, .f32⟩
  | .local _ .vmem, ⟨2, _⟩ => ⟨S8x3x512x1, .f32⟩
  | .local _ .vmem, ⟨3, _⟩ => ⟨S8x3x512x1, .f32⟩
  | .local _ .vmem, ⟨4, _⟩ => ⟨S8x1x128, .f32⟩
  | .local _ .vmem, ⟨5, _⟩ => ⟨S8x1x128, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c15_i32 : BitVec 32 := 15#32
  let v34 : BitVec 32 := Scalar.addi c0_i32 c15_i32
  let c1_i32 : BitVec 32 := 1#32
  ⟨c0_i32, v34, c1_i32⟩
@[reducible] def k0_t2_loop : Scf.Loop 32 :=
  let c0_i32_13 : BitVec 32 := 0#32
  let c15_i32_14 : BitVec 32 := 15#32
  let v79 : BitVec 32 := Scalar.addi c0_i32_13 c15_i32_14
  let c1_i32_15 : BitVec 32 := 1#32
  ⟨c0_i32_13, v79, c1_i32_15⟩
@[reducible] def k0_t3_loop : Scf.Loop 32 :=
  let c0_i32_22 : BitVec 32 := 0#32
  let c15_i32_23 : BitVec 32 := 15#32
  let v124 : BitVec 32 := Scalar.addi c0_i32_22 c15_i32_23
  let c1_i32_24 : BitVec 32 := 1#32
  ⟨c0_i32_22, v124, c1_i32_24⟩
@[reducible] def k0_t4_loop : Scf.Loop 32 :=
  let c0_i32_31 : BitVec 32 := 0#32
  let c15_i32_32 : BitVec 32 := 15#32
  let v169 : BitVec 32 := Scalar.addi c0_i32_31 c15_i32_32
  let c1_i32_33 : BitVec 32 := 1#32
  ⟨c0_i32_31, v169, c1_i32_33⟩
@[reducible] def k0_t5_loop : Scf.Loop 32 :=
  let c0_i32_40 : BitVec 32 := 0#32
  let c15_i32_41 : BitVec 32 := 15#32
  let v214 : BitVec 32 := Scalar.addi c0_i32_40 c15_i32_41
  let c1_i32_42 : BitVec 32 := 1#32
  ⟨c0_i32_40, v214, c1_i32_42⟩
@[reducible] def k0_t6_loop : Scf.Loop 32 :=
  let c0_i32_49 : BitVec 32 := 0#32
  let c15_i32_50 : BitVec 32 := 15#32
  let v259 : BitVec 32 := Scalar.addi c0_i32_49 c15_i32_50
  let c1_i32_51 : BitVec 32 := 1#32
  ⟨c0_i32_49, v259, c1_i32_51⟩
@[reducible] def k0_t7_loop : Scf.Loop 32 :=
  let c0_i32_58 : BitVec 32 := 0#32
  let c15_i32_59 : BitVec 32 := 15#32
  let v304 : BitVec 32 := Scalar.addi c0_i32_58 c15_i32_59
  let c1_i32_60 : BitVec 32 := 1#32
  ⟨c0_i32_58, v304, c1_i32_60⟩
@[reducible] def k0_t8_loop : Scf.Loop 32 :=
  let c0_i32_67 : BitVec 32 := 0#32
  let c15_i32_68 : BitVec 32 := 15#32
  let v349 : BitVec 32 := Scalar.addi c0_i32_67 c15_i32_68
  let c1_i32_69 : BitVec 32 := 1#32
  ⟨c0_i32_67, v349, c1_i32_69⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x8192x3 : Shape := ⟨3, ![2, 8192, 3]⟩
abbrev S32x512x3 : Shape := ⟨3, ![32, 512, 3]⟩
abbrev S32x512x1x3 : Shape := ⟨4, ![32, 512, 1, 3]⟩
abbrev S32x1x512x3 : Shape := ⟨4, ![32, 1, 512, 3]⟩
abbrev S32x512x512x3 : Shape := ⟨4, ![32, 512, 512, 3]⟩
abbrev S_ : Shape := ⟨0, ![]⟩
abbrev S32x512x512 : Shape := ⟨3, ![32, 512, 512]⟩
abbrev S32x512x16 : Shape := ⟨3, ![32, 512, 16]⟩
abbrev S32x512x16x1 : Shape := ⟨4, ![32, 512, 16, 1]⟩
abbrev S32x512x16x3 : Shape := ⟨4, ![32, 512, 16, 3]⟩
abbrev S32x512x3x3 : Shape := ⟨4, ![32, 512, 3, 3]⟩
abbrev S3x3 : Shape := ⟨2, ![3, 3]⟩
abbrev S1x1x3x3 : Shape := ⟨4, ![1, 1, 3, 3]⟩
abbrev S32x512 : Shape := ⟨2, ![32, 512]⟩
abbrev S32x512x1x1 : Shape := ⟨4, ![32, 512, 1, 1]⟩
abbrev S32x512x1 : Shape := ⟨3, ![32, 512, 1]⟩
abbrev S1x32x512 : Shape := ⟨3, ![1, 32, 512]⟩
abbrev S3x32x512 : Shape := ⟨3, ![3, 32, 512]⟩
abbrev S2x16x512x3 : Shape := ⟨4, ![2, 16, 512, 3]⟩
abbrev S2x16x3 : Shape := ⟨3, ![2, 16, 3]⟩
abbrev S2x16x1x3 : Shape := ⟨4, ![2, 16, 1, 3]⟩
abbrev S2x16x512 : Shape := ⟨3, ![2, 16, 512]⟩

abbrev nBuf : Space → Nat
  | .hbm => 273
  | .vmem => 0
  | .smem => 0
  | _ => 0

abbrev hbmTy0_0 (i : Nat) : BufTy := match i % 128 with
  | 0 => ⟨S2x8192x3, .f32⟩
  | 1 => ⟨S32x512x3, .f32⟩
  | 2 => ⟨S32x512x1x3, .f32⟩
  | 3 => ⟨S32x1x512x3, .f32⟩
  | 4 => ⟨S32x512x512x3, .f32⟩
  | 5 => ⟨S32x512x512x3, .f32⟩
  | 6 => ⟨S32x512x512x3, .f32⟩
  | 7 => ⟨S32x512x512x3, .f32⟩
  | 8 => ⟨S_, .f32⟩
  | 9 => ⟨S32x512x512, .f32⟩
  | 10 => ⟨S32x512x512, .f32⟩
  | 11 => ⟨S32x512x512, .f32⟩
  | 12 => ⟨S32x512x16, .f32⟩
  | 13 => ⟨S32x512x16, .i32⟩
  | 14 => ⟨S_, .i32⟩
  | 15 => ⟨S32x512x16, .i32⟩
  | 16 => ⟨S32x512x16, .i1⟩
  | 17 => ⟨S_, .i32⟩
  | 18 => ⟨S32x512x16, .i32⟩
  | 19 => ⟨S32x512x16, .i32⟩
  | 20 => ⟨S32x512x16, .i32⟩
  | 21 => ⟨S32x512x16x1, .i32⟩
  | 22 => ⟨S32x512x16x3, .f32⟩
  | 23 => ⟨S32x512x1x3, .f32⟩
  | 24 => ⟨S32x512x16x3, .f32⟩
  | 25 => ⟨S32x512x16x3, .f32⟩
  | 26 => ⟨S32x512x3x3, .f32⟩
  | 27 => ⟨S3x3, .i32⟩
  | 28 => ⟨S3x3, .i32⟩
  | 29 => ⟨S_, .i32⟩
  | 30 => ⟨S3x3, .i32⟩
  | 31 => ⟨S3x3, .i32⟩
  | 32 => ⟨S3x3, .i1⟩
  | 33 => ⟨S3x3, .f32⟩
  | 34 => ⟨S1x1x3x3, .f32⟩
  | 35 => ⟨S32x512x3x3, .f32⟩
  | 36 => ⟨S32x512x3x3, .f32⟩
  | 37 => ⟨S_, .f32⟩
  | 38 => ⟨S32x512, .f32⟩
  | 39 => ⟨S32x512x1x1, .f32⟩
  | 40 => ⟨S_, .f32⟩
  | 41 => ⟨S32x512x1x1, .f32⟩
  | 42 => ⟨S32x512x1x1, .f32⟩
  | 43 => ⟨S32x512x3x3, .f32⟩
  | 44 => ⟨S32x512x3x3, .f32⟩
  | 45 => ⟨S_, .f32⟩
  | 46 => ⟨S32x512, .f32⟩
  | 47 => ⟨S_, .i32⟩
  | 48 => ⟨S_, .i32⟩
  | 49 => ⟨S32x512x3x3, .f32⟩
  | 50 => ⟨S_, .i32⟩
  | 51 => ⟨S_, .i32⟩
  | 52 => ⟨S32x512, .f32⟩
  | 53 => ⟨S_, .i32⟩
  | 54 => ⟨S_, .i1⟩
  | 55 => ⟨S_, .i32⟩
  | 56 => ⟨S_, .i32⟩
  | 57 => ⟨S32x512x1x1, .f32⟩
  | 58 => ⟨S32x512, .f32⟩
  | 59 => ⟨S32x512, .f32⟩
  | 60 => ⟨S32x512x1x1, .f32⟩
  | 61 => ⟨S32x512, .f32⟩
  | 62 => ⟨S32x512x1x1, .f32⟩
  | 63 => ⟨S32x512, .f32⟩
  | 64 => ⟨S32x512x1x1, .f32⟩
  | 65 => ⟨S32x512, .f32⟩
  | 66 => ⟨S32x512x1x1, .f32⟩
  | 67 => ⟨S32x512, .f32⟩
  | 68 => ⟨S32x512, .f32⟩
  | 69 => ⟨S32x512x1x1, .f32⟩
  | 70 => ⟨S32x512, .f32⟩
  | 71 => ⟨S32x512x1x1, .f32⟩
  | 72 => ⟨S32x512, .f32⟩
  | 73 => ⟨S32x512x1x1, .f32⟩
  | 74 => ⟨S32x512, .f32⟩
  | 75 => ⟨S32x512x1x1, .f32⟩
  | 76 => ⟨S32x512, .f32⟩
  | 77 => ⟨S32x512, .f32⟩
  | 78 => ⟨S32x512, .f32⟩
  | 79 => ⟨S32x512, .f32⟩
  | 80 => ⟨S32x512, .f32⟩
  | 81 => ⟨S32x512, .f32⟩
  | 82 => ⟨S32x512, .f32⟩
  | 83 => ⟨S32x512, .f32⟩
  | 84 => ⟨S32x512, .f32⟩
  | 85 => ⟨S32x512, .f32⟩
  | 86 => ⟨S32x512, .f32⟩
  | 87 => ⟨S32x512, .f32⟩
  | 88 => ⟨S32x512, .f32⟩
  | 89 => ⟨S32x512, .f32⟩
  | 90 => ⟨S32x512, .f32⟩
  | 91 => ⟨S32x512, .f32⟩
  | 92 => ⟨S32x512, .f32⟩
  | 93 => ⟨S32x512, .f32⟩
  | 94 => ⟨S32x512, .f32⟩
  | 95 => ⟨S32x512, .f32⟩
  | 96 => ⟨S32x512, .f32⟩
  | 97 => ⟨S32x512, .f32⟩
  | 98 => ⟨S32x512, .f32⟩
  | 99 => ⟨S32x512, .f32⟩
  | 100 => ⟨S32x512, .f32⟩
  | 101 => ⟨S32x512, .f32⟩
  | 102 => ⟨S32x512, .f32⟩
  | 103 => ⟨S32x512, .f32⟩
  | 104 => ⟨S_, .f32⟩
  | 105 => ⟨S32x512, .f32⟩
  | 106 => ⟨S32x512, .f32⟩
  | 107 => ⟨S32x512, .f32⟩
  | 108 => ⟨S32x512, .f32⟩
  | 109 => ⟨S_, .f32⟩
  | 110 => ⟨S_, .f32⟩
  | 111 => ⟨S_, .f32⟩
  | 112 => ⟨S32x512, .f32⟩
  | 113 => ⟨S32x512, .f32⟩
  | 114 => ⟨S_, .f32⟩
  | 115 => ⟨S32x512, .f32⟩
  | 116 => ⟨S32x512, .f32⟩
  | 117 => ⟨S_, .i32⟩
  | 118 => ⟨S_, .i32⟩
  | 119 => ⟨S32x512x1x1, .f32⟩
  | 120 => ⟨S3x3, .i32⟩
  | 121 => ⟨S3x3, .i32⟩
  | 122 => ⟨S_, .i32⟩
  | 123 => ⟨S3x3, .i32⟩
  | 124 => ⟨S3x3, .i32⟩
  | 125 => ⟨S3x3, .i1⟩
  | 126 => ⟨S3x3, .f32⟩
  | 127 => ⟨S1x1x3x3, .f32⟩
  | _ => ⟨S2x8192x3, .f32⟩

abbrev hbmTy0_1 (i : Nat) : BufTy := match i % 128 with
  | 0 => ⟨S32x512x3x3, .f32⟩
  | 1 => ⟨S32x512x3x3, .f32⟩
  | 2 => ⟨S32x512x3x3, .f32⟩
  | 3 => ⟨S32x512x3x3, .f32⟩
  | 4 => ⟨S32x512x1x3, .f32⟩
  | 5 => ⟨S32x512x3, .f32⟩
  | 6 => ⟨S32x512x1x3, .f32⟩
  | 7 => ⟨S32x512x3, .f32⟩
  | 8 => ⟨S32x512x1, .f32⟩
  | 9 => ⟨S32x512, .f32⟩
  | 10 => ⟨S32x512x1, .f32⟩
  | 11 => ⟨S32x512, .f32⟩
  | 12 => ⟨S32x512x1, .f32⟩
  | 13 => ⟨S32x512, .f32⟩
  | 14 => ⟨S32x512x1, .f32⟩
  | 15 => ⟨S32x512, .f32⟩
  | 16 => ⟨S32x512x1, .f32⟩
  | 17 => ⟨S32x512, .f32⟩
  | 18 => ⟨S32x512x1, .f32⟩
  | 19 => ⟨S32x512, .f32⟩
  | 20 => ⟨S32x512, .f32⟩
  | 21 => ⟨S32x512, .f32⟩
  | 22 => ⟨S32x512, .f32⟩
  | 23 => ⟨S32x512, .f32⟩
  | 24 => ⟨S32x512, .f32⟩
  | 25 => ⟨S32x512, .f32⟩
  | 26 => ⟨S32x512, .f32⟩
  | 27 => ⟨S32x512, .f32⟩
  | 28 => ⟨S32x512, .f32⟩
  | 29 => ⟨S1x32x512, .f32⟩
  | 30 => ⟨S1x32x512, .f32⟩
  | 31 => ⟨S1x32x512, .f32⟩
  | 32 => ⟨S3x32x512, .f32⟩
  | 33 => ⟨S32x512x3, .f32⟩
  | 34 => ⟨S32x512x1x3, .f32⟩
  | 35 => ⟨S32x512x3, .f32⟩
  | 36 => ⟨S32x512x1x3, .f32⟩
  | 37 => ⟨S32x512x3, .f32⟩
  | 38 => ⟨S32x512x1, .f32⟩
  | 39 => ⟨S32x512, .f32⟩
  | 40 => ⟨S32x512x1, .f32⟩
  | 41 => ⟨S32x512, .f32⟩
  | 42 => ⟨S32x512x1, .f32⟩
  | 43 => ⟨S32x512, .f32⟩
  | 44 => ⟨S32x512x1, .f32⟩
  | 45 => ⟨S32x512, .f32⟩
  | 46 => ⟨S32x512x1, .f32⟩
  | 47 => ⟨S32x512, .f32⟩
  | 48 => ⟨S32x512x1, .f32⟩
  | 49 => ⟨S32x512, .f32⟩
  | 50 => ⟨S32x512, .f32⟩
  | 51 => ⟨S32x512, .f32⟩
  | 52 => ⟨S32x512, .f32⟩
  | 53 => ⟨S32x512, .f32⟩
  | 54 => ⟨S32x512, .f32⟩
  | 55 => ⟨S32x512, .f32⟩
  | 56 => ⟨S32x512, .f32⟩
  | 57 => ⟨S32x512, .f32⟩
  | 58 => ⟨S32x512, .f32⟩
  | 59 => ⟨S1x32x512, .f32⟩
  | 60 => ⟨S1x32x512, .f32⟩
  | 61 => ⟨S1x32x512, .f32⟩
  | 62 => ⟨S3x32x512, .f32⟩
  | 63 => ⟨S32x512x3, .f32⟩
  | 64 => ⟨S32x512x1x3, .f32⟩
  | 65 => ⟨S32x512x3, .f32⟩
  | 66 => ⟨S32x512x1x3, .f32⟩
  | 67 => ⟨S32x512x3, .f32⟩
  | 68 => ⟨S32x512x1, .f32⟩
  | 69 => ⟨S32x512, .f32⟩
  | 70 => ⟨S32x512x1, .f32⟩
  | 71 => ⟨S32x512, .f32⟩
  | 72 => ⟨S32x512x1, .f32⟩
  | 73 => ⟨S32x512, .f32⟩
  | 74 => ⟨S32x512x1, .f32⟩
  | 75 => ⟨S32x512, .f32⟩
  | 76 => ⟨S32x512x1, .f32⟩
  | 77 => ⟨S32x512, .f32⟩
  | 78 => ⟨S32x512x1, .f32⟩
  | 79 => ⟨S32x512, .f32⟩
  | 80 => ⟨S32x512, .f32⟩
  | 81 => ⟨S32x512, .f32⟩
  | 82 => ⟨S32x512, .f32⟩
  | 83 => ⟨S32x512, .f32⟩
  | 84 => ⟨S32x512, .f32⟩
  | 85 => ⟨S32x512, .f32⟩
  | 86 => ⟨S32x512, .f32⟩
  | 87 => ⟨S32x512, .f32⟩
  | 88 => ⟨S32x512, .f32⟩
  | 89 => ⟨S1x32x512, .f32⟩
  | 90 => ⟨S1x32x512, .f32⟩
  | 91 => ⟨S1x32x512, .f32⟩
  | 92 => ⟨S3x32x512, .f32⟩
  | 93 => ⟨S32x512x3, .f32⟩
  | 94 => ⟨S32x512x3, .f32⟩
  | 95 => ⟨S_, .f32⟩
  | 96 => ⟨S32x512, .f32⟩
  | 97 => ⟨S32x512x1, .f32⟩
  | 98 => ⟨S32x512x3, .f32⟩
  | 99 => ⟨S_, .f32⟩
  | 100 => ⟨S32x512, .f32⟩
  | 101 => ⟨S32x512x1, .f32⟩
  | 102 => ⟨S32x512x3, .f32⟩
  | 103 => ⟨S_, .f32⟩
  | 104 => ⟨S32x512, .f32⟩
  | 105 => ⟨S32x512x1, .f32⟩
  | 106 => ⟨S32x512x1, .i1⟩
  | 107 => ⟨S32x512x1, .i1⟩
  | 108 => ⟨S32x512x1, .i1⟩
  | 109 => ⟨S32x512x1, .i1⟩
  | 110 => ⟨S32x512x3, .i1⟩
  | 111 => ⟨S32x512x3, .f32⟩
  | 112 => ⟨S32x512x3, .i1⟩
  | 113 => ⟨S32x512x3, .f32⟩
  | 114 => ⟨S32x512x3, .f32⟩
  | 115 => ⟨S_, .f32⟩
  | 116 => ⟨S32x512, .f32⟩
  | 117 => ⟨S32x512x1, .f32⟩
  | 118 => ⟨S_, .f32⟩
  | 119 => ⟨S32x512x1, .f32⟩
  | 120 => ⟨S32x512x1, .f32⟩
  | 121 => ⟨S32x512x1, .f32⟩
  | 122 => ⟨S32x512x3, .f32⟩
  | 123 => ⟨S32x512x3, .f32⟩
  | 124 => ⟨S32x512x3, .f32⟩
  | 125 => ⟨S2x16x512x3, .f32⟩
  | 126 => ⟨S_, .f32⟩
  | 127 => ⟨S2x16x3, .f32⟩
  | _ => ⟨S2x8192x3, .f32⟩

abbrev hbmTy0_2 (i : Nat) : BufTy := match i % 128 with
  | 0 => ⟨S2x16x1x3, .f32⟩
  | 1 => ⟨S_, .f32⟩
  | 2 => ⟨S2x16x1x3, .f32⟩
  | 3 => ⟨S2x16x1x3, .f32⟩
  | 4 => ⟨S2x16x512x3, .f32⟩
  | 5 => ⟨S2x16x512x3, .f32⟩
  | 6 => ⟨S2x16x512x3, .f32⟩
  | 7 => ⟨S_, .f32⟩
  | 8 => ⟨S_, .f32⟩
  | 9 => ⟨S_, .f32⟩
  | 10 => ⟨S_, .f32⟩
  | 11 => ⟨S2x16x512, .f32⟩
  | 12 => ⟨S_, .f32⟩
  | 13 => ⟨S_, .f32⟩
  | 14 => ⟨S_, .f32⟩
  | 15 => ⟨S_, .f32⟩
  | 16 => ⟨S_, .f32⟩
  | _ => ⟨S2x8192x3, .f32⟩

abbrev hbmTy (i : Nat) : BufTy := match i / 128 with
  | 0 => hbmTy0_0 i
  | 1 => hbmTy0_1 i
  | 2 => hbmTy0_2 i
  | _ => ⟨S2x8192x3, .f32⟩

abbrev bufTy : (tb : Table) → Fin (tcTables nBuf tb) → BufTy
  | .hbm, ⟨i, _⟩ => hbmTy i
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_values : Ref sig .tc := ⟨.hbm, 12, rfl⟩
abbrev main_indices : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_c_5 : Ref sig .tc := ⟨.hbm, 47, rfl⟩
abbrev main_c_6 : Ref sig .tc := ⟨.hbm, 48, rfl⟩
abbrev main_v37_0 : Ref sig .tc := ⟨.hbm, 49, rfl⟩
abbrev main_v37_1 : Ref sig .tc := ⟨.hbm, 50, rfl⟩
abbrev main_v37_2 : Ref sig .tc := ⟨.hbm, 51, rfl⟩
abbrev main_v37_3 : Ref sig .tc := ⟨.hbm, 52, rfl⟩
abbrev main_while0c_c_22 : Ref sig .tc := ⟨.hbm, 53, rfl⟩
abbrev main_while0c_v103 : Ref sig .tc := ⟨.hbm, 54, rfl⟩
abbrev main_while0b_c_22 : Ref sig .tc := ⟨.hbm, 55, rfl⟩
abbrev main_while0b_v103 : Ref sig .tc := ⟨.hbm, 56, rfl⟩
abbrev main_while0b_v104 : Ref sig .tc := ⟨.hbm, 57, rfl⟩
abbrev main_while0b_v105 : Ref sig .tc := ⟨.hbm, 58, rfl⟩
abbrev main_while0b_v106 : Ref sig .tc := ⟨.hbm, 59, rfl⟩
abbrev main_while0b_v107 : Ref sig .tc := ⟨.hbm, 60, rfl⟩
abbrev main_while0b_v108 : Ref sig .tc := ⟨.hbm, 61, rfl⟩
abbrev main_while0b_v109 : Ref sig .tc := ⟨.hbm, 62, rfl⟩
abbrev main_while0b_v110 : Ref sig .tc := ⟨.hbm, 63, rfl⟩
abbrev main_while0b_v111 : Ref sig .tc := ⟨.hbm, 64, rfl⟩
abbrev main_while0b_v112 : Ref sig .tc := ⟨.hbm, 65, rfl⟩
abbrev main_while0b_v113 : Ref sig .tc := ⟨.hbm, 66, rfl⟩
abbrev main_while0b_v114 : Ref sig .tc := ⟨.hbm, 67, rfl⟩
abbrev main_while0b_v115 : Ref sig .tc := ⟨.hbm, 68, rfl⟩
abbrev main_while0b_v116 : Ref sig .tc := ⟨.hbm, 69, rfl⟩
abbrev main_while0b_v117 : Ref sig .tc := ⟨.hbm, 70, rfl⟩
abbrev main_while0b_v118 : Ref sig .tc := ⟨.hbm, 71, rfl⟩
abbrev main_while0b_v119 : Ref sig .tc := ⟨.hbm, 72, rfl⟩
abbrev main_while0b_v120 : Ref sig .tc := ⟨.hbm, 73, rfl⟩
abbrev main_while0b_v121 : Ref sig .tc := ⟨.hbm, 74, rfl⟩
abbrev main_while0b_v122 : Ref sig .tc := ⟨.hbm, 75, rfl⟩
abbrev main_while0b_v123 : Ref sig .tc := ⟨.hbm, 76, rfl⟩
abbrev main_while0b_v124 : Ref sig .tc := ⟨.hbm, 77, rfl⟩
abbrev main_while0b_v125 : Ref sig .tc := ⟨.hbm, 78, rfl⟩
abbrev main_while0b_v126 : Ref sig .tc := ⟨.hbm, 79, rfl⟩
abbrev main_while0b_v127 : Ref sig .tc := ⟨.hbm, 80, rfl⟩
abbrev main_while0b_v128 : Ref sig .tc := ⟨.hbm, 81, rfl⟩
abbrev main_while0b_v129 : Ref sig .tc := ⟨.hbm, 82, rfl⟩
abbrev main_while0b_v130 : Ref sig .tc := ⟨.hbm, 83, rfl⟩
abbrev main_while0b_v131 : Ref sig .tc := ⟨.hbm, 84, rfl⟩
abbrev main_while0b_v132 : Ref sig .tc := ⟨.hbm, 85, rfl⟩
abbrev main_while0b_v133 : Ref sig .tc := ⟨.hbm, 86, rfl⟩
abbrev main_while0b_v134 : Ref sig .tc := ⟨.hbm, 87, rfl⟩
abbrev main_while0b_v135 : Ref sig .tc := ⟨.hbm, 88, rfl⟩
abbrev main_while0b_v136 : Ref sig .tc := ⟨.hbm, 89, rfl⟩
abbrev main_while0b_v137 : Ref sig .tc := ⟨.hbm, 90, rfl⟩
abbrev main_while0b_v138 : Ref sig .tc := ⟨.hbm, 91, rfl⟩
abbrev main_while0b_v139 : Ref sig .tc := ⟨.hbm, 92, rfl⟩
abbrev main_while0b_v140 : Ref sig .tc := ⟨.hbm, 93, rfl⟩
abbrev main_while0b_v141 : Ref sig .tc := ⟨.hbm, 94, rfl⟩
abbrev main_while0b_v142 : Ref sig .tc := ⟨.hbm, 95, rfl⟩
abbrev main_while0b_v143 : Ref sig .tc := ⟨.hbm, 96, rfl⟩
abbrev main_while0b_v144 : Ref sig .tc := ⟨.hbm, 97, rfl⟩
abbrev main_while0b_v145 : Ref sig .tc := ⟨.hbm, 98, rfl⟩
abbrev main_while0b_v146 : Ref sig .tc := ⟨.hbm, 99, rfl⟩
abbrev main_while0b_v147 : Ref sig .tc := ⟨.hbm, 100, rfl⟩
abbrev main_while0b_v148 : Ref sig .tc := ⟨.hbm, 101, rfl⟩
abbrev main_while0b_v149 : Ref sig .tc := ⟨.hbm, 102, rfl⟩
abbrev main_while0b_v150 : Ref sig .tc := ⟨.hbm, 103, rfl⟩
abbrev main_while0b_cst_23 : Ref sig .tc := ⟨.hbm, 104, rfl⟩
abbrev main_while0b_v151 : Ref sig .tc := ⟨.hbm, 105, rfl⟩
abbrev main_while0b_v152 : Ref sig .tc := ⟨.hbm, 106, rfl⟩
abbrev main_while0b_v153 : Ref sig .tc := ⟨.hbm, 107, rfl⟩
abbrev main_while0b_v154 : Ref sig .tc := ⟨.hbm, 108, rfl⟩
abbrev main_while0b_cst_24 : Ref sig .tc := ⟨.hbm, 109, rfl⟩
abbrev main_while0b_cst_25 : Ref sig .tc := ⟨.hbm, 110, rfl⟩
abbrev main_while0b_call0_v0 : Ref sig .tc := ⟨.hbm, 111, rfl⟩
abbrev main_while0b_call0_v1 : Ref sig .tc := ⟨.hbm, 112, rfl⟩
abbrev main_while0b_call0_v2 : Ref sig .tc := ⟨.hbm, 113, rfl⟩
abbrev main_while0b_call0_v3 : Ref sig .tc := ⟨.hbm, 114, rfl⟩
abbrev main_while0b_call0_v4 : Ref sig .tc := ⟨.hbm, 115, rfl⟩
abbrev main_while0b_v155 : Ref sig .tc := ⟨.hbm, 116, rfl⟩
abbrev main_while0b_c_26 : Ref sig .tc := ⟨.hbm, 117, rfl⟩
abbrev main_while0b_v156 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_c_7 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_call1_v5 : Ref sig .tc := ⟨.hbm, 141, rfl⟩
abbrev main_call1_v6 : Ref sig .tc := ⟨.hbm, 142, rfl⟩
abbrev main_call1_v7 : Ref sig .tc := ⟨.hbm, 143, rfl⟩
abbrev main_call1_v8 : Ref sig .tc := ⟨.hbm, 144, rfl⟩
abbrev main_call1_v9 : Ref sig .tc := ⟨.hbm, 145, rfl⟩
abbrev main_call1_v10 : Ref sig .tc := ⟨.hbm, 146, rfl⟩
abbrev main_call1_v11 : Ref sig .tc := ⟨.hbm, 147, rfl⟩
abbrev main_call1_v12 : Ref sig .tc := ⟨.hbm, 148, rfl⟩
abbrev main_call1_v13 : Ref sig .tc := ⟨.hbm, 149, rfl⟩
abbrev main_call1_v14 : Ref sig .tc := ⟨.hbm, 150, rfl⟩
abbrev main_call1_v15 : Ref sig .tc := ⟨.hbm, 151, rfl⟩
abbrev main_call1_v16 : Ref sig .tc := ⟨.hbm, 152, rfl⟩
abbrev main_call1_v17 : Ref sig .tc := ⟨.hbm, 153, rfl⟩
abbrev main_call1_v18 : Ref sig .tc := ⟨.hbm, 154, rfl⟩
abbrev main_call1_v19 : Ref sig .tc := ⟨.hbm, 155, rfl⟩
abbrev main_call1_v20 : Ref sig .tc := ⟨.hbm, 156, rfl⟩
abbrev main_call1_v21 : Ref sig .tc := ⟨.hbm, 157, rfl⟩
abbrev main_call1_v22 : Ref sig .tc := ⟨.hbm, 158, rfl⟩
abbrev main_call1_v23 : Ref sig .tc := ⟨.hbm, 159, rfl⟩
abbrev main_call1_v24 : Ref sig .tc := ⟨.hbm, 160, rfl⟩
abbrev main_v54 : Ref sig .tc := ⟨.hbm, 161, rfl⟩
abbrev main_v55 : Ref sig .tc := ⟨.hbm, 162, rfl⟩
abbrev main_v56 : Ref sig .tc := ⟨.hbm, 163, rfl⟩
abbrev main_v57 : Ref sig .tc := ⟨.hbm, 164, rfl⟩
abbrev main_v58 : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_call2_v5 : Ref sig .tc := ⟨.hbm, 171, rfl⟩
abbrev main_call2_v6 : Ref sig .tc := ⟨.hbm, 172, rfl⟩
abbrev main_call2_v7 : Ref sig .tc := ⟨.hbm, 173, rfl⟩
abbrev main_call2_v8 : Ref sig .tc := ⟨.hbm, 174, rfl⟩
abbrev main_call2_v9 : Ref sig .tc := ⟨.hbm, 175, rfl⟩
abbrev main_call2_v10 : Ref sig .tc := ⟨.hbm, 176, rfl⟩
abbrev main_call2_v11 : Ref sig .tc := ⟨.hbm, 177, rfl⟩
abbrev main_call2_v12 : Ref sig .tc := ⟨.hbm, 178, rfl⟩
abbrev main_call2_v13 : Ref sig .tc := ⟨.hbm, 179, rfl⟩
abbrev main_call2_v14 : Ref sig .tc := ⟨.hbm, 180, rfl⟩
abbrev main_call2_v15 : Ref sig .tc := ⟨.hbm, 181, rfl⟩
abbrev main_call2_v16 : Ref sig .tc := ⟨.hbm, 182, rfl⟩
abbrev main_call2_v17 : Ref sig .tc := ⟨.hbm, 183, rfl⟩
abbrev main_call2_v18 : Ref sig .tc := ⟨.hbm, 184, rfl⟩
abbrev main_call2_v19 : Ref sig .tc := ⟨.hbm, 185, rfl⟩
abbrev main_call2_v20 : Ref sig .tc := ⟨.hbm, 186, rfl⟩
abbrev main_call2_v21 : Ref sig .tc := ⟨.hbm, 187, rfl⟩
abbrev main_call2_v22 : Ref sig .tc := ⟨.hbm, 188, rfl⟩
abbrev main_call2_v23 : Ref sig .tc := ⟨.hbm, 189, rfl⟩
abbrev main_call2_v24 : Ref sig .tc := ⟨.hbm, 190, rfl⟩
abbrev main_v59 : Ref sig .tc := ⟨.hbm, 191, rfl⟩
abbrev main_v60 : Ref sig .tc := ⟨.hbm, 192, rfl⟩
abbrev main_v61 : Ref sig .tc := ⟨.hbm, 193, rfl⟩
abbrev main_v62 : Ref sig .tc := ⟨.hbm, 194, rfl⟩
abbrev main_v63 : Ref sig .tc := ⟨.hbm, 195, rfl⟩
abbrev main_call3_v0 : Ref sig .tc := ⟨.hbm, 196, rfl⟩
abbrev main_call3_v1 : Ref sig .tc := ⟨.hbm, 197, rfl⟩
abbrev main_call3_v2 : Ref sig .tc := ⟨.hbm, 198, rfl⟩
abbrev main_call3_v3 : Ref sig .tc := ⟨.hbm, 199, rfl⟩
abbrev main_call3_v4 : Ref sig .tc := ⟨.hbm, 200, rfl⟩
abbrev main_call3_v5 : Ref sig .tc := ⟨.hbm, 201, rfl⟩
abbrev main_call3_v6 : Ref sig .tc := ⟨.hbm, 202, rfl⟩
abbrev main_call3_v7 : Ref sig .tc := ⟨.hbm, 203, rfl⟩
abbrev main_call3_v8 : Ref sig .tc := ⟨.hbm, 204, rfl⟩
abbrev main_call3_v9 : Ref sig .tc := ⟨.hbm, 205, rfl⟩
abbrev main_call3_v10 : Ref sig .tc := ⟨.hbm, 206, rfl⟩
abbrev main_call3_v11 : Ref sig .tc := ⟨.hbm, 207, rfl⟩
abbrev main_call3_v12 : Ref sig .tc := ⟨.hbm, 208, rfl⟩
abbrev main_call3_v13 : Ref sig .tc := ⟨.hbm, 209, rfl⟩
abbrev main_call3_v14 : Ref sig .tc := ⟨.hbm, 210, rfl⟩
abbrev main_call3_v15 : Ref sig .tc := ⟨.hbm, 211, rfl⟩
abbrev main_call3_v16 : Ref sig .tc := ⟨.hbm, 212, rfl⟩
abbrev main_call3_v17 : Ref sig .tc := ⟨.hbm, 213, rfl⟩
abbrev main_call3_v18 : Ref sig .tc := ⟨.hbm, 214, rfl⟩
abbrev main_call3_v19 : Ref sig .tc := ⟨.hbm, 215, rfl⟩
abbrev main_call3_v20 : Ref sig .tc := ⟨.hbm, 216, rfl⟩
abbrev main_call3_v21 : Ref sig .tc := ⟨.hbm, 217, rfl⟩
abbrev main_call3_v22 : Ref sig .tc := ⟨.hbm, 218, rfl⟩
abbrev main_call3_v23 : Ref sig .tc := ⟨.hbm, 219, rfl⟩
abbrev main_call3_v24 : Ref sig .tc := ⟨.hbm, 220, rfl⟩
abbrev main_v64 : Ref sig .tc := ⟨.hbm, 221, rfl⟩
abbrev main_v65 : Ref sig .tc := ⟨.hbm, 222, rfl⟩
abbrev main_cst_8 : Ref sig .tc := ⟨.hbm, 223, rfl⟩
abbrev main_v66 : Ref sig .tc := ⟨.hbm, 224, rfl⟩
abbrev main_v67 : Ref sig .tc := ⟨.hbm, 225, rfl⟩
abbrev main_v68 : Ref sig .tc := ⟨.hbm, 226, rfl⟩
abbrev main_cst_9 : Ref sig .tc := ⟨.hbm, 227, rfl⟩
abbrev main_v69 : Ref sig .tc := ⟨.hbm, 228, rfl⟩
abbrev main_v70 : Ref sig .tc := ⟨.hbm, 229, rfl⟩
abbrev main_v71 : Ref sig .tc := ⟨.hbm, 230, rfl⟩
abbrev main_cst_10 : Ref sig .tc := ⟨.hbm, 231, rfl⟩
abbrev main_v72 : Ref sig .tc := ⟨.hbm, 232, rfl⟩
abbrev main_v73 : Ref sig .tc := ⟨.hbm, 233, rfl⟩
abbrev main_v74 : Ref sig .tc := ⟨.hbm, 234, rfl⟩
abbrev main_v75 : Ref sig .tc := ⟨.hbm, 235, rfl⟩
abbrev main_v76 : Ref sig .tc := ⟨.hbm, 236, rfl⟩
abbrev main_v77 : Ref sig .tc := ⟨.hbm, 237, rfl⟩
abbrev main_call4_v0 : Ref sig .tc := ⟨.hbm, 238, rfl⟩
abbrev main_v78 : Ref sig .tc := ⟨.hbm, 239, rfl⟩
abbrev main_call5_v0 : Ref sig .tc := ⟨.hbm, 240, rfl⟩
abbrev main_v79 : Ref sig .tc := ⟨.hbm, 241, rfl⟩
abbrev main_v80 : Ref sig .tc := ⟨.hbm, 242, rfl⟩
abbrev main_cst_11 : Ref sig .tc := ⟨.hbm, 243, rfl⟩
abbrev main_v81 : Ref sig .tc := ⟨.hbm, 244, rfl⟩
abbrev main_v82 : Ref sig .tc := ⟨.hbm, 245, rfl⟩
abbrev main_cst_12 : Ref sig .tc := ⟨.hbm, 246, rfl⟩
abbrev main_v83 : Ref sig .tc := ⟨.hbm, 247, rfl⟩
abbrev main_v84 : Ref sig .tc := ⟨.hbm, 248, rfl⟩
abbrev main_v85 : Ref sig .tc := ⟨.hbm, 249, rfl⟩
abbrev main_v86 : Ref sig .tc := ⟨.hbm, 250, rfl⟩
abbrev main_v87 : Ref sig .tc := ⟨.hbm, 251, rfl⟩
abbrev main_v88 : Ref sig .tc := ⟨.hbm, 252, rfl⟩
abbrev main_v89 : Ref sig .tc := ⟨.hbm, 253, rfl⟩
abbrev main_cst_13 : Ref sig .tc := ⟨.hbm, 254, rfl⟩
abbrev main_v90 : Ref sig .tc := ⟨.hbm, 255, rfl⟩
abbrev main_v91 : Ref sig .tc := ⟨.hbm, 256, rfl⟩
abbrev main_cst_14 : Ref sig .tc := ⟨.hbm, 257, rfl⟩
abbrev main_v92 : Ref sig .tc := ⟨.hbm, 258, rfl⟩
abbrev main_v93 : Ref sig .tc := ⟨.hbm, 259, rfl⟩
abbrev main_v94 : Ref sig .tc := ⟨.hbm, 260, rfl⟩
abbrev main_v95 : Ref sig .tc := ⟨.hbm, 261, rfl⟩
abbrev main_v96 : Ref sig .tc := ⟨.hbm, 262, rfl⟩
abbrev main_cst_15 : Ref sig .tc := ⟨.hbm, 263, rfl⟩
abbrev main_v97 : Ref sig .tc := ⟨.hbm, 264, rfl⟩
abbrev main_cst_16 : Ref sig .tc := ⟨.hbm, 265, rfl⟩
abbrev main_v98 : Ref sig .tc := ⟨.hbm, 266, rfl⟩
abbrev main_v99 : Ref sig .tc := ⟨.hbm, 267, rfl⟩
abbrev main_cst_17 : Ref sig .tc := ⟨.hbm, 268, rfl⟩
abbrev main_v100 : Ref sig .tc := ⟨.hbm, 269, rfl⟩
abbrev main_cst_18 : Ref sig .tc := ⟨.hbm, 270, rfl⟩
abbrev main_v101 : Ref sig .tc := ⟨.hbm, 271, rfl⟩
abbrev main_v102 : Ref sig .tc := ⟨.hbm, 272, rfl⟩

abbrev nD : Nat := 1
abbrev τ : Topo := Topo.v7x

variable {F : FTy → Type} [FloatOps F]

abbrev main_while0_count : Scf.Loop 32 := ⟨0#32, 20#32, 1#32⟩
-- ==== Proof.Frames.lean ====
/- The frames: each program's argument ends as it began and every semaphore counter at zero. The kernel's two come from
   its launch; the reference has no semaphores at all, and none of its operations writes the argument. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The side conditions of the precondition's program: comparisons of fixed shapes. -/
instance preFacts : Cert.Pre_finite_and_apart.Facts where
  shapeCasts_S2x8192x3_S32x512x3 := by decide
  bcast_S32x512x3_S32x512x1x3_0_1_3 := by decide
  bcast_S32x512x3_S32x1x512x3_0_2_3 := by decide
  bcast_S32x512x1x3_S32x512x512x3_0_1_2_3 := by decide
  bcast_S32x1x512x3_S32x512x512x3_0_1_2_3 := by decide
  reducesTo_S32x512x512x3_S32x512x512_d3 := by decide
  h_S_ := by decide
  bcast_S32x512x512_S32x512x512x1_0_1_2 := by decide
  bcast_S32x512x512_S32x512x1x512_0_1_3 := by decide
  bcast_S32x512x512x1_S32x512x512x512_0_1_2_3 := by decide
  bcast_S32x512x1x512_S32x512x512x512_0_1_2_3 := by decide
  bcast_S512_S512x1_0 := by decide
  bcast_S512_S1x512_1 := by decide
  bcast_S512x1_S512x512_0_1 := by decide
  bcast_S1x512_S512x512_0_1 := by decide
  bcast_S512x512_S1x1x512x512_2_3 := by decide
  bcast_S1x1x512x512_S32x512x512x512_0_1_2_3 := by decide
  bcast_S_S2x8192x3 := by decide

section Reference

open Cert.ReferenceIdeal Cert.ReferenceIdeal.Gen Cert.ReferenceIdeal.Value StableHlo

variable {F : FTy → Type} [FloatOps F]

/-- The references that `hostOps0_1` writes, in order. -/
abbrev hostOps0_1_W : List (Ref sig .tc) := [main_v38, main_v39, main_v40, main_c_7, main_v41, main_v42, main_v43, main_v44, main_v45, main_v46, main_v47, main_v48, main_v49, main_v50, main_v51, main_v52, main_v53]
theorem hostOps0_1_keep (V : Valuation τ sig (Elt F)) {r : Ref sig .tc} (h : r ∉ hostOps0_1_W) :
    after hostOps0_1 V (Proc.devRef .tc r) = V (Proc.devRef .tc r) :=
  after_unwritten hostOps0_1_W rfl h V

/-- The references that `hostOps0_2` writes, in order. -/
abbrev hostOps0_2_W : List (Ref sig .tc) := [main_call1_v0, main_call1_v1, main_call1_v2, main_call1_v3, main_call1_v4, main_call1_v5, main_call1_v6, main_call1_v7, main_call1_v8, main_call1_v9, main_call1_v10, main_call1_v11, main_call1_v12, main_call1_v13, main_call1_v14, main_call1_v15, main_call1_v16, main_call1_v17, main_call1_v18, main_call1_v19, main_call1_v20, main_call1_v21, main_call1_v22, main_call1_v23, main_call1_v24, main_v54]
theorem hostOps0_2_keep (V : Valuation τ sig (Elt F)) {r : Ref sig .tc} (h : r ∉ hostOps0_2_W) :
    after hostOps0_2 V (Proc.devRef .tc r) = V (Proc.devRef .tc r) :=
  after_unwritten hostOps0_2_W rfl h V

/-- The references that `hostOps0_3` writes, in order. -/
abbrev hostOps0_3_W : List (Ref sig .tc) := [main_v55, main_v56, main_v57, main_v58]
theorem hostOps0_3_keep (V : Valuation τ sig (Elt F)) {r : Ref sig .tc} (h : r ∉ hostOps0_3_W) :
    after hostOps0_3 V (Proc.devRef .tc r) = V (Proc.devRef .tc r) :=
  after_unwritten hostOps0_3_W rfl h V

/-- The references that `hostOps0_4` writes, in order. -/
abbrev hostOps0_4_W : List (Ref sig .tc) := [main_call2_v0, main_call2_v1, main_call2_v2, main_call2_v3, main_call2_v4, main_call2_v5, main_call2_v6, main_call2_v7, main_call2_v8, main_call2_v9, main_call2_v10, main_call2_v11, main_call2_v12, main_call2_v13, main_call2_v14, main_call2_v15, main_call2_v16, main_call2_v17, main_call2_v18, main_call2_v19, main_call2_v20, main_call2_v21, main_call2_v22, main_call2_v23, main_call2_v24, main_v59]
theorem hostOps0_4_keep (V : Valuation τ sig (Elt F)) {r : Ref sig .tc} (h : r ∉ hostOps0_4_W) :
    after hostOps0_4 V (Proc.devRef .tc r) = V (Proc.devRef .tc r) :=
  after_unwritten hostOps0_4_W rfl h V

/-- The references that `hostOps0_5` writes, in order. -/
abbrev hostOps0_5_W : List (Ref sig .tc) := [main_v60, main_v61, main_v62, main_v63]
theorem hostOps0_5_keep (V : Valuation τ sig (Elt F)) {r : Ref sig .tc} (h : r ∉ hostOps0_5_W) :
    after hostOps0_5 V (Proc.devRef .tc r) = V (Proc.devRef .tc r) :=
  after_unwritten hostOps0_5_W rfl h V

/-- The references that `hostOps0_6` writes, in order. -/
abbrev hostOps0_6_W : List (Ref sig .tc) := [main_call3_v0, main_call3_v1, main_call3_v2, main_call3_v3, main_call3_v4, main_call3_v5, main_call3_v6, main_call3_v7, main_call3_v8, main_call3_v9, main_call3_v10, main_call3_v11, main_call3_v12, main_call3_v13, main_call3_v14, main_call3_v15, main_call3_v16, main_call3_v17, main_call3_v18, main_call3_v19, main_call3_v20, main_call3_v21, main_call3_v22, main_call3_v23, main_call3_v24, main_v64]
theorem hostOps0_6_keep (V : Valuation τ sig (Elt F)) {r : Ref sig .tc} (h : r ∉ hostOps0_6_W) :
    after hostOps0_6 V (Proc.devRef .tc r) = V (Proc.devRef .tc r) :=
  after_unwritten hostOps0_6_W rfl h V

/-- The references that `hostOps0_7` writes, in order. -/
abbrev hostOps0_7_W : List (Ref sig .tc) := [main_v65, main_cst_8, main_v66, main_v67, main_v68, main_cst_9, main_v69, main_v70, main_v71, main_cst_10, main_v72, main_v73, main_v74, main_v75, main_v76, main_v77]
theorem hostOps0_7_keep (V : Valuation τ sig (Elt F)) {r : Ref sig .tc} (h : r ∉ hostOps0_7_W) :
    after hostOps0_7 V (Proc.devRef .tc r) = V (Proc.devRef .tc r) :=
  after_unwritten hostOps0_7_W rfl h V

/-- The references that `hostOps0_8` writes, in order. -/
abbrev hostOps0_8_W : List (Ref sig .tc) := [main_call4_v0, main_v78]
theorem hostOps0_8_keep (V : Valuation τ sig (Elt F)) {r : Ref sig .tc} (h : r ∉ hostOps0_8_W) :
    after hostOps0_8 V (Proc.devRef .tc r) = V (Proc.devRef .tc r) :=
  after_unwritten hostOps0_8_W rfl h V

/-- The references that `hostOps0_9` writes, in order. -/
abbrev hostOps0_9_W : List (Ref sig .tc) := [main_call5_v0, main_v79]
theorem hostOps0_9_keep (V : Valuation τ sig (Elt F)) {r : Ref sig .tc} (h : r ∉ hostOps0_9_W) :
    after hostOps0_9 V (Proc.devRef .tc r) = V (Proc.devRef .tc r) :=
  after_unwritten hostOps0_9_W rfl h V

/-- The references that `hostOps0_10` writes, in order. -/
abbrev hostOps0_10_W : List (Ref sig .tc) := [main_v80, main_cst_11, main_v81, main_v82, main_cst_12, main_v83, main_v84, main_v85, main_v86, main_v87, main_v88, main_v89, main_cst_13, main_v90, main_v91, main_cst_14, main_v92, main_v93, main_v94, main_v95, main_v96, main_cst_15, main_v97, main_cst_16, main_v98, main_v99, main_cst_17, main_v100, main_cst_18, main_v101, main_v102]
theorem hostOps0_10_keep (V : Valuation τ sig (Elt F)) {r : Ref sig .tc} (h : r ∉ hostOps0_10_W) :
    after hostOps0_10 V (Proc.devRef .tc r) = V (Proc.devRef .tc r) :=
  after_unwritten hostOps0_10_W rfl h V

theorem ref_trips_arg (V : Dev nD → Valuation τ sig (Elt F)) (c : Dev nD) : ∀ k,
    atTrip condOps bodyI V k c (Proc.devRef .tc main_arg0) = V c (Proc.devRef .tc main_arg0)
  | 0 => rfl
  | k + 1 => by
    simp only [atTrip_succ, afterL_cons, afterL_nil]
    rw [after_of_writes_sub while0Ops0_2 _ while0Ops0_2_writes (by decide +kernel),
      after_of_writes_sub while0Ops0_1 _ while0Ops0_1_writes (by decide +kernel),
      after_of_writes_sub while0Ops0 _ while0Ops0_writes (by decide +kernel),
      after_of_writes_sub condOps _ condOps_writes (by decide +kernel)]
    exact ref_trips_arg V c k

/-- The reference's argument is what it was at the launch. -/
theorem ref_arg (m : (ℓ : Loc nD τ sig) → Buf (Elt F) ℓ) (c : Dev nD) :
    finalContents condOps preI bodyI postI 20 m c (Proc.devRef .tc main_arg0)
      = m ((c.tc : Thread nD τ).loc main_arg0) := by
  simp only [finalContents, afterL_cons, afterL_nil]
  rw [hostOps0_10_keep _ (by decide +kernel), hostOps0_9_keep _ (by decide +kernel),
    hostOps0_8_keep _ (by decide +kernel), hostOps0_7_keep _ (by decide +kernel),
    hostOps0_6_keep _ (by decide +kernel), hostOps0_5_keep _ (by decide +kernel),
    hostOps0_4_keep _ (by decide +kernel), hostOps0_3_keep _ (by decide +kernel),
    hostOps0_2_keep _ (by decide +kernel), hostOps0_1_keep _ (by decide +kernel),
    after_of_writes_sub condOps _ condOps_writes (by decide +kernel), ref_trips_arg]
  simp only [entryContents, afterL_cons, afterL_nil]
  rw [after_of_writes_sub hostOps0 _ hostOps0_writes (by decide +kernel)]

theorem no_sem (s : GSem nD τ sig) : False := by
  rcases (SemLoc.equivSum sig) s.2 with x | x <;> exact x.elim0

theorem ref_run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_v102)
        = finalContents condOps preI bodyI postI 20 m c (Proc.devRef .tc main_v102))
      ∧ r.2.sem = fun _ => 0) :=
  (θ_run _ _ _).mono (fun r hc => ⟨fun c => ⟨(hc c main_arg0 rfl).trans (ref_arg m c), hc c main_v102 rfl⟩,
    funext fun s => (no_sem s).elim⟩) (run_fold m g)

end Reference

end Cert.Proof

end
-- ==== Proof.Rank.lean ====
/- The rank of an element of an injective real family, and two ways to pick the sixteen of least rank: fifteen rounds
   that replace the least remaining value by infinity, and a sort of which the first sixteen places are kept. -/
module

public import Mathlib.Data.EReal.Basic
public import Mathlib.Data.Fintype.Card
public import Mathlib.Algebra.BigOperators.Fin
public import Mathlib.Order.Lattice

@[expose] public section

noncomputable section

namespace Cert.Proof

open Finset

/-- How many members of the family are smaller than the `j`-th. -/
def rank {n : ℕ} (D : Fin n → ℝ) (j : Fin n) : ℕ := (univ.filter fun l => D l < D j).card

theorem rank_lt {n : ℕ} (D : Fin n → ℝ) (j : Fin n) : rank D j < n := by
  have h : (univ.filter fun l => D l < D j) ⊂ univ := by
    refine ⟨subset_univ _, fun h => ?_⟩
    have := h (mem_univ j)
    simp at this
  simpa [rank] using card_lt_card h

theorem rank_mono {n : ℕ} {D : Fin n → ℝ} {j l : Fin n} (h : D j ≤ D l) : rank D j ≤ rank D l :=
  card_le_card fun x hx => by
    simp only [mem_filter, mem_univ, true_and] at hx ⊢
    exact lt_of_lt_of_le hx h

theorem rank_strict {n : ℕ} {D : Fin n → ℝ} {j l : Fin n} (h : D j < D l) : rank D j < rank D l := by
  refine card_lt_card ⟨fun x hx => ?_, fun hs => ?_⟩
  · simp only [mem_filter, mem_univ, true_and] at hx ⊢
    exact hx.trans h
  · have := hs (by simpa using h : j ∈ univ.filter fun x => D x < D l)
    simp at this

theorem rank_lt_iff {n : ℕ} {D : Fin n → ℝ} {j l : Fin n} : rank D j < rank D l ↔ D j < D l :=
  ⟨fun h => lt_of_not_ge fun hg => absurd (rank_mono hg) (not_le.2 h), rank_strict⟩

theorem rank_inj {n : ℕ} {D : Fin n → ℝ} (hD : Function.Injective D) {j l : Fin n} (h : rank D j = rank D l) : j = l := by
  apply hD
  rcases lt_trichotomy (D j) (D l) with hl | he | hg
  · exact absurd h (rank_strict hl).ne
  · exact he
  · exact absurd h (rank_strict hg).ne'

/-- Every place below `n` is the rank of a member. -/
theorem exists_rank {n : ℕ} {D : Fin n → ℝ} (hD : Function.Injective D) (k : ℕ) (hk : k < n) : ∃ j, rank D j = k := by
  have hi : Function.Injective fun j : Fin n => (⟨rank D j, rank_lt D j⟩ : Fin n) := fun a b h =>
    rank_inj hD (by simpa using congrArg Fin.val h)
  obtain ⟨j, hj⟩ := (Finite.injective_iff_surjective.1 hi) ⟨k, hk⟩
  exact ⟨j, by simpa using congrArg Fin.val hj⟩

/-- The least value of a family of extended reals. -/
def leastOf {n : ℕ} (w : Fin n → EReal) : EReal := univ.inf w

/-- One round: every least value becomes infinity. -/
def dropLeast {n : ℕ} (w : Fin n → EReal) : Fin n → EReal := fun j => if w j = leastOf w then ⊤ else w j

/-- The family with its zeros at infinity. -/
def startFrom {n : ℕ} (D : Fin n → ℝ) : Fin n → EReal := fun j => if (D j : EReal) = 0 then ⊤ else (D j : EReal)

/-- After `t` rounds exactly the members of rank at most `t` are at infinity. -/
theorem rounds_eq {n : ℕ} {D : Fin n → ℝ} (hD : Function.Injective D) (h0 : ∀ j, 0 ≤ D j) (hz : ∃ i, D i = 0)
    (t : ℕ) (ht : t < n) : dropLeast^[t] (startFrom D) = fun j => if rank D j ≤ t then ⊤ else (D j : EReal) := by
  obtain ⟨i, hi⟩ := hz
  have hri : rank D i = 0 := by
    rw [rank, card_eq_zero, filter_eq_empty_iff]
    intro x _; rw [hi]; exact not_lt.2 (h0 x)
  induction t with
  | zero =>
    funext j
    simp only [Function.iterate_zero, id, startFrom, Nat.le_zero]
    by_cases hj : D j = 0
    · have : j = i := hD (hj.trans hi.symm)
      subst this
      simp [hi, hri]
    · have : rank D j ≠ 0 := fun h => hj (by rw [rank_inj hD (h.trans hri.symm), hi])
      have hj' : ((D j : ℝ) : EReal) ≠ 0 := by exact_mod_cast hj
      simp [hj', this]
  | succ t ih =>
    rw [Function.iterate_succ_apply', ih (by omega)]
    obtain ⟨s, hs⟩ := exists_rank hD (t + 1) ht
    have hm : leastOf (fun j => if rank D j ≤ t then (⊤ : EReal) else (D j : EReal)) = (D s : EReal) := by
      apply le_antisymm
      · refine (inf_le (mem_univ s)).trans ?_
        simp [hs]
      · refine Finset.le_inf fun j _ => ?_
        by_cases hj : rank D j ≤ t
        · simp [hj]
        · simp only [hj, if_false]
          have : ¬ D j < D s := fun h => by have := rank_strict h; omega
          exact_mod_cast not_lt.1 this
    funext j
    simp only [dropLeast, hm]
    by_cases hj : rank D j ≤ t
    · simp only [hj, if_true]
      rw [if_pos (by omega : rank D j ≤ t + 1)]
      split <;> rfl
    · simp only [hj, if_false]
      by_cases he : rank D j = t + 1
      · have : j = s := rank_inj hD (he.trans hs.symm)
        subst this
        simp [hs]
      · have hne : ((D j : ℝ) : EReal) ≠ (D s : EReal) := fun h => he (by
          rw [hD (by exact_mod_cast h : D j = D s), hs])
        rw [if_neg hne, if_neg (by omega : ¬ rank D j ≤ t + 1)]

/-- The weight the rounds leave at a member: one within the first sixteen, else zero. -/
theorem weight_eq {D : Fin 512 → ℝ} (hD : Function.Injective D) (h0 : ∀ j, 0 ≤ D j) (hz : ∃ i, D i = 0) (j : Fin 512) :
    (if dropLeast^[15] (startFrom D) j = (D j : EReal) then (0 : EReal) else 1) = ((if rank D j < 16 then 1 else 0 : ℝ) : EReal) := by
  rw [rounds_eq hD h0 hz 15 (by omega)]
  by_cases hj : rank D j ≤ 15
  · have : rank D j < 16 := by omega
    simp [hj, this]
  · have : ¬ rank D j < 16 := by omega
    simp [hj, this]

/-- A sum over the first `k` places of an enumeration by rank is the weighted sum over all members. -/
theorem sum_by_rank {n k : ℕ} (hk : k ≤ n) {D : Fin n → ℝ} (hD : Function.Injective D) (e : Fin k → Fin n) (he : ∀ i, rank D (e i) = i.val)
    (g : Fin n → ℝ) : ∑ i : Fin k, g (e i) = ∑ j : Fin n, (if rank D j < k then 1 else 0 : ℝ) * g j := by
  have : ∀ j, (if rank D j < k then 1 else 0 : ℝ) * g j = if rank D j < k then g j else 0 := fun j => by split <;> simp
  simp only [this]
  rw [← sum_filter]
  refine sum_bij (fun i _ => e i) (fun i _ => ?_) (fun a _ b _ h => ?_) (fun j hj => ?_) (fun _ _ => rfl)
  · simp [he]
  · have := he a; rw [h, he b] at this; exact Fin.ext this.symm
  · have hj' : rank D j < k := by simpa using hj
    exact ⟨⟨rank D j, hj'⟩, mem_univ _, rank_inj hD (he _)⟩

end Cert.Proof

end
-- ==== Proof.Scalar.lean ====
/- What both programs compute from one point's normalised covariance, over the extended reals: the truncated Newton
   iteration for the least root of the characteristic polynomial, the longest column of the product of the two other
   factors, its absolute direction. Every value stays real on real inputs. -/
module

public import Idealize.ShloMosaic.PureOps.Ideal
public import Idealize.ShloMosaic.PureOps.Ideal.Laws
public import Idealize.ShloMosaic.Lib.IdealHost

@[expose] public section

noncomputable section

namespace Cert.Proof

open Idealize.ShloMosaic

/-! ## The constants -/

abbrev cTwo : EReal := Ideal.ofBits .f32 0x40000000#32
abbrev cThree : EReal := Ideal.ofBits .f32 0x40400000#32
abbrev cTiny : EReal := Ideal.ofBits .f32 0x0DA24260#32
abbrev cNeg : EReal := Ideal.ofBits .f32 0x8DA24260#32
abbrev cCap : EReal := Ideal.ofBits .f32 0x3EAAAB8A#32
abbrev cFloor : EReal := Ideal.ofBits .f32 0x006CE3EE#32
abbrev cLen : EReal := Ideal.ofBits .f32 0x44000000#32

/-- An extended real that is a real number. -/
def IsReal (x : EReal) : Prop := ∃ r : ℝ, x = (r : EReal)

theorem cTwo_eq : cTwo = ((2 : ℝ) : EReal) := by
  simp [cTwo, Ideal.ofBits, Ideal.ieee]; norm_num [← EReal.coe_mul]
theorem cThree_real : IsReal cThree := by
  refine ⟨3, ?_⟩; simp [cThree, Ideal.ofBits, Ideal.ieee, -EReal.coe_mul]; norm_num
theorem cCap_real : IsReal cCap := ⟨_, by simp [cCap, Ideal.ofBits, Ideal.ieee]; norm_cast⟩
theorem cTiny_pos : ∃ r : ℝ, 0 < r ∧ cTiny = (r : EReal) := by
  refine ⟨10633824 * (2 ^ 123)⁻¹, by positivity, ?_⟩
  simp [cTiny, Ideal.ofBits, Ideal.ieee, -EReal.coe_mul, -EReal.coe_neg]
theorem cNeg_neg : ∃ r : ℝ, r < 0 ∧ cNeg = (r : EReal) := by
  refine ⟨-10633824 * (2 ^ 123)⁻¹, by norm_num, ?_⟩
  simp [cNeg, Ideal.ofBits, Ideal.ieee, -EReal.coe_mul, -EReal.coe_neg]
theorem cFloor_pos : ∃ r : ℝ, 0 < r ∧ cFloor = (r : EReal) := by
  refine ⟨7136238 * (2 ^ 149)⁻¹, by positivity, ?_⟩
  simp [cFloor, Ideal.ofBits, Ideal.ieee, -EReal.coe_mul, -EReal.coe_neg]
theorem cLen_eq : cLen = ((512 : ℝ) : EReal) := by
  simp [cLen, Ideal.ofBits, Ideal.ieee]; norm_num [← EReal.coe_mul]

/-! ## Real values -/

namespace IsReal

theorem coe (r : ℝ) : IsReal r := ⟨r, rfl⟩
theorem zero : IsReal 0 := ⟨0, rfl⟩
theorem add {x y : EReal} (hx : IsReal x) (hy : IsReal y) : IsReal (x + y) := by
  obtain ⟨a, rfl⟩ := hx; obtain ⟨b, rfl⟩ := hy; exact ⟨a + b, by norm_cast⟩
theorem sub {x y : EReal} (hx : IsReal x) (hy : IsReal y) : IsReal (x - y) := by
  obtain ⟨a, rfl⟩ := hx; obtain ⟨b, rfl⟩ := hy; exact ⟨a - b, by norm_cast⟩
theorem mul {x y : EReal} (hx : IsReal x) (hy : IsReal y) : IsReal (x * y) := by
  obtain ⟨a, rfl⟩ := hx; obtain ⟨b, rfl⟩ := hy; exact ⟨a * b, by norm_cast⟩
theorem neg {x : EReal} (hx : IsReal x) : IsReal (-x) := by
  obtain ⟨a, rfl⟩ := hx; exact ⟨-a, by norm_cast⟩
theorem max {x y : EReal} (hx : IsReal x) (hy : IsReal y) : IsReal (max x y) := by
  rcases max_choice x y with h | h <;> rw [h] <;> assumption
theorem min {x y : EReal} (hx : IsReal x) (hy : IsReal y) : IsReal (min x y) := by
  rcases min_choice x y with h | h <;> rw [h] <;> assumption
theorem div {x y : EReal} (hx : IsReal x) (hy : IsReal y) (h0 : y ≠ 0) : IsReal (Ideal.div x y) := by
  obtain ⟨b, rfl⟩ := hy
  rw [Ideal.div_coe (by exact_mod_cast h0)]
  exact hx.mul ⟨_, rfl⟩
theorem sum {ι : Type*} (s : Finset ι) {f : ι → EReal} (h : ∀ i, IsReal (f i)) : IsReal (∑ i ∈ s, f i) :=
  Finset.sum_induction f IsReal (fun _ _ => add) zero fun i _ => h i

end IsReal

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : max (x : EReal) (y : EReal) = ((max x y : ℝ) : EReal) :=
  (EReal.coe_strictMono.monotone.map_max).symm

theorem min_cNeg_ne (x : EReal) : min x cNeg ≠ 0 := by
  obtain ⟨r, hr, h⟩ := cNeg_neg
  rw [h]
  exact ((min_le_right _ _).trans_lt (by exact_mod_cast hr : (r : EReal) < 0)).ne
theorem max_cTiny_ne (x : EReal) : max x cTiny ≠ 0 := by
  obtain ⟨r, hr, h⟩ := cTiny_pos
  rw [h]
  exact ((by exact_mod_cast hr : (0 : EReal) < r).trans_le (le_max_right _ _)).ne'
theorem cLen_ne : cLen ≠ 0 := by rw [cLen_eq]; norm_cast

/-! ## The Newton iteration -/

/-- One Newton step from `l`, before the clip. -/
def raw (t m d l : EReal) : EReal :=
  l - Ideal.div (((t - l) * l - m) * l + d) (min ((cTwo * t - cThree * l) * l - m) cNeg)

/-- One Newton step, clipped to the interval that holds the least root. -/
def newt (t m d l : EReal) : EReal := min cCap (max 0 (raw t m d l))

theorem newt_real {t m d l : EReal} (ht : IsReal t) (hm : IsReal m) (hd : IsReal d) (hl : IsReal l) :
    IsReal (newt t m d l) := by
  have h2 : IsReal cTwo := ⟨_, cTwo_eq⟩
  obtain ⟨n, -, hn⟩ := cNeg_neg
  refine cCap_real.min (IsReal.zero.max (hl.sub (IsReal.div ?_ ?_ (min_cNeg_ne _))))
  · exact ((((ht.sub hl).mul hl).sub hm).mul hl).add hd
  · exact ((((h2.mul ht).sub (cThree_real.mul hl)).mul hl).sub hm).min ⟨n, hn⟩

/-- Twenty steps from zero. -/
def lam20 (t m d : EReal) : EReal := (newt t m d)^[20] 0

theorem iter_real {t m d : EReal} (ht : IsReal t) (hm : IsReal m) (hd : IsReal d) : ∀ n, IsReal ((newt t m d)^[n] 0)
  | 0 => IsReal.zero
  | n + 1 => by rw [Function.iterate_succ_apply']; exact newt_real ht hm hd (iter_real ht hm hd n)

/-! ## Symmetric matrices -/

/-- A symmetric matrix with rows (a b c), (b d e), (c e f). -/
@[ext] structure Sym where
  (a b c d e f : EReal)

namespace Sym

structure Real (s : Sym) : Prop where
  (a : IsReal s.a) (b : IsReal s.b) (c : IsReal s.c) (d : IsReal s.d) (e : IsReal s.e) (f : IsReal s.f)

variable (s : Sym)

def tr : EReal := s.a + s.d + s.f
def minors : EReal := (s.a * s.d - s.b * s.b) + (s.a * s.f - s.c * s.c) + (s.d * s.f - s.e * s.e)
def det : EReal :=
  s.a * (s.d * s.f - s.e * s.e) - s.b * (s.b * s.f - s.e * s.c) + s.c * (s.b * s.e - s.d * s.c)
/-- The matrix over its trace, the trace kept away from zero. -/
def norm : Sym :=
  let t := max s.tr cTiny
  ⟨Ideal.div s.a t, Ideal.div s.b t, Ideal.div s.c t, Ideal.div s.d t, Ideal.div s.e t, Ideal.div s.f t⟩
def lam : EReal := lam20 s.tr s.minors s.det

/-- `s² − α s + β` for `α` and `β` the sum and the product of the two other roots, `l` being one. -/
def projAt (al be : EReal) : Sym :=
  ⟨s.a * s.a + s.b * s.b + s.c * s.c - al * s.a + be,
   s.a * s.b + s.b * s.d + s.c * s.e - al * s.b,
   s.a * s.c + s.b * s.e + s.c * s.f - al * s.c,
   s.b * s.b + s.d * s.d + s.e * s.e - al * s.d + be,
   s.b * s.c + s.d * s.e + s.e * s.f - al * s.e,
   s.c * s.c + s.e * s.e + s.f * s.f - al * s.f + be⟩
def proj : Sym := s.projAt (s.tr - s.lam) (s.minors - s.lam * (s.tr - s.lam))

/-- The squared lengths of the columns. -/
def len1 : EReal := s.a * s.a + s.b * s.b + s.c * s.c
def len2 : EReal := s.b * s.b + s.d * s.d + s.e * s.e
def len3 : EReal := s.c * s.c + s.e * s.e + s.f * s.f

open Classical in
/-- The longest column's entries. -/
def col (k : Fin 3) : EReal :=
  if s.len2 ≤ s.len1 ∧ s.len3 ≤ s.len1 then ![s.a, s.b, s.c] k
  else if s.len3 ≤ s.len2 then ![s.b, s.d, s.e] k else ![s.c, s.e, s.f] k

/-- The squared length of the longest column, kept away from zero. -/
def long : EReal := max (s.col 0 * s.col 0 + s.col 1 * s.col 1 + s.col 2 * s.col 2) cFloor

/-- The absolute value of the longest column's direction. -/
def dir (k : Fin 3) : EReal := max (s.col k) (-s.col k) * Ideal.rsqrt s.long

/-- The absolute normal. -/
def nrm (k : Fin 3) : EReal := s.proj.dir k

variable {s}

theorem Real.tr (h : s.Real) : IsReal s.tr := (h.a.add h.d).add h.f
theorem Real.minors (h : s.Real) : IsReal s.minors :=
  (((h.a.mul h.d).sub (h.b.mul h.b)).add ((h.a.mul h.f).sub (h.c.mul h.c))).add ((h.d.mul h.f).sub (h.e.mul h.e))
theorem Real.det (h : s.Real) : IsReal s.det :=
  ((h.a.mul ((h.d.mul h.f).sub (h.e.mul h.e))).sub (h.b.mul ((h.b.mul h.f).sub (h.e.mul h.c)))).add
    (h.c.mul ((h.b.mul h.e).sub (h.d.mul h.c)))
theorem Real.norm (h : s.Real) : s.norm.Real := by
  obtain ⟨n, -, hn⟩ := cTiny_pos
  have ht : IsReal (max s.tr cTiny) := h.tr.max ⟨n, hn⟩
  have h0 := max_cTiny_ne s.tr
  exact ⟨h.a.div ht h0, h.b.div ht h0, h.c.div ht h0, h.d.div ht h0, h.e.div ht h0, h.f.div ht h0⟩
theorem Real.lam (h : s.Real) : IsReal s.lam := iter_real h.tr h.minors h.det 20
theorem Real.projAt (h : s.Real) {al be : EReal} (ha : IsReal al) (hb : IsReal be) : (s.projAt al be).Real :=
  ⟨((((h.a.mul h.a).add (h.b.mul h.b)).add (h.c.mul h.c)).sub (ha.mul h.a)).add hb,
   (((h.a.mul h.b).add (h.b.mul h.d)).add (h.c.mul h.e)).sub (ha.mul h.b),
   (((h.a.mul h.c).add (h.b.mul h.e)).add (h.c.mul h.f)).sub (ha.mul h.c),
   ((((h.b.mul h.b).add (h.d.mul h.d)).add (h.e.mul h.e)).sub (ha.mul h.d)).add hb,
   (((h.b.mul h.c).add (h.d.mul h.e)).add (h.e.mul h.f)).sub (ha.mul h.e),
   ((((h.c.mul h.c).add (h.e.mul h.e)).add (h.f.mul h.f)).sub (ha.mul h.f)).add hb⟩
theorem Real.proj (h : s.Real) : s.proj.Real :=
  h.projAt (h.tr.sub h.lam) (h.minors.sub (h.lam.mul (h.tr.sub h.lam)))
theorem Real.col (h : s.Real) (k : Fin 3) : IsReal (s.col k) := by
  unfold Sym.col
  split_ifs <;> fin_cases k
  exacts [h.a, h.b, h.c, h.b, h.d, h.e, h.c, h.e, h.f]

theorem long_pos (s : Sym) : 0 < s.long := by
  obtain ⟨r, hr, h⟩ := cFloor_pos
  exact (by rw [h]; exact_mod_cast hr : (0 : EReal) < cFloor).trans_le (le_max_right _ _)

theorem Real.long (h : s.Real) : ∃ r : ℝ, 0 < r ∧ s.long = r := by
  obtain ⟨n, -, hn⟩ := cFloor_pos
  obtain ⟨r, hr⟩ : IsReal s.long :=
    ((((h.col 0).mul (h.col 0)).add ((h.col 1).mul (h.col 1))).add ((h.col 2).mul (h.col 2))).max ⟨n, hn⟩
  exact ⟨r, by have := s.long_pos; rw [hr] at this; exact_mod_cast this, hr⟩

theorem Real.dir (h : s.Real) (k : Fin 3) : IsReal (s.dir k) := by
  obtain ⟨r, h0, hr⟩ := h.long
  refine ((h.col k).max (h.col k).neg).mul ?_
  rw [hr, Ideal.rsqrt_coe, if_neg h0.le.not_gt, if_neg h0.ne']
  exact ⟨_, rfl⟩
theorem Real.nrm (h : s.Real) (k : Fin 3) : IsReal (s.nrm k) := h.proj.dir k

/-- The direction as a quotient by the length. -/
theorem Real.dir_eq (h : s.Real) (k : Fin 3) :
    s.dir k = max (Ideal.div (s.col k) (Ideal.sqrt s.long)) (-Ideal.div (s.col k) (Ideal.sqrt s.long)) := by
  obtain ⟨r, h0, hr⟩ := h.long
  obtain ⟨v, hv⟩ := h.col k
  have hs : 0 < Real.sqrt r := Real.sqrt_pos.mpr h0
  rw [Sym.dir, hr, hv, Ideal.rsqrt_coe, if_neg h0.le.not_gt, if_neg h0.ne', Ideal.sqrt_coe, if_neg h0.le.not_gt,
    Ideal.div_coe hs.ne']
  rw [← EReal.coe_mul, ← EReal.coe_neg, ← EReal.coe_neg, coe_max, coe_max, ← EReal.coe_mul]
  congr 1
  rw [max_mul_of_nonneg _ _ (inv_nonneg.mpr hs.le)]
  simp

end Sym

/-- A product by the quotient of one is the quotient. -/
theorem mul_div_one {x y : EReal} (h : y ≠ 0) : x * Ideal.div 1 y = Ideal.div x y := by
  rw [Ideal.div, Ideal.div, if_neg h, if_neg h, one_mul]

/-! ## The variance of three real families over 512 points -/

def mean (f : Fin 512 → EReal) : EReal := Ideal.div (∑ i, f i) cLen

/-- The sum of the squared distances to the mean. -/
def spread (f : Fin 512 → EReal) : EReal := ∑ i, (f i - mean f) * (f i - mean f)

theorem spread_coe (f : Fin 512 → ℝ) :
    spread (fun i => (f i : EReal)) = ((∑ i, f i * f i - (∑ i, f i) * (∑ i, f i) / 512 : ℝ) : EReal) := by
  have hm : mean (fun i => (f i : EReal)) = (((∑ i, f i) / 512 : ℝ) : EReal) := by
    rw [mean, ← coe_sum, cLen_eq, Ideal.div_coe (by norm_num), ← EReal.coe_mul]; congr 1; ring
  unfold spread
  simp only [hm, ← EReal.coe_sub, ← EReal.coe_mul, ← coe_sum]
  congr 1
  have : ∀ i, (f i - (∑ i, f i) / 512) * (f i - (∑ i, f i) / 512)
      = f i * f i - 2 * ((∑ i, f i) / 512) * f i + ((∑ i, f i) / 512) ^ 2 := fun i => by ring
  simp only [this, Finset.sum_add_distrib, Finset.sum_sub_distrib, ← Finset.mul_sum, Finset.sum_const, Finset.card_univ,
    Fintype.card_fin, nsmul_eq_mul]
  push_cast
  ring

/-- The spread of three families together, from the sums and the sums of squares. -/
theorem spread_three {f g h : Fin 512 → EReal} (hf : ∀ i, IsReal (f i)) (hg : ∀ i, IsReal (g i)) (hh : ∀ i, IsReal (h i)) :
    ∑ i, f i * f i - Ideal.div ((∑ i, f i) * ∑ i, f i) cLen + ∑ i, g i * g i - Ideal.div ((∑ i, g i) * ∑ i, g i) cLen
        + ∑ i, h i * h i - Ideal.div ((∑ i, h i) * ∑ i, h i) cLen
      = spread f + spread g + spread h := by
  choose a ha using hf; choose b hb using hg; choose c hc using hh
  obtain rfl : f = fun i => (a i : EReal) := funext ha
  obtain rfl : g = fun i => (b i : EReal) := funext hb
  obtain rfl : h = fun i => (c i : EReal) := funext hc
  simp only [spread_coe, cLen_eq, Ideal.div_coe (show (512 : ℝ) ≠ 0 by norm_num), ← EReal.coe_mul, ← coe_sum,
    ← EReal.coe_sub, ← EReal.coe_add]
  congr 1
  ring

end Cert.Proof

end
-- ==== Proof.Patch.lean ====
/- What the kernel accumulates for one patch of its block: for each point, over the sixteen nearest points, the sums of
   the coordinates, of their products and of one. The nearest are those whose distance fifteen rounds of dropping the
   least have changed. -/
module

public import proofs.«01_k».proof.Proof.Gen.KernelIdeal.Frame
public import proofs.«01_k».proof.Proof.Rank
public import proofs.«01_k».proof.Proof.Scalar
public import Idealize.ShloMosaic.Lib.Pointwise
public import Idealize.ShloMosaic.Lib.WholeRead

@[expose] public section

set_option maxRecDepth 16384

noncomputable section

namespace Cert.Proof

open Idealize.ShloMosaic Idealize.SL.Sem Cert.KernelIdeal Cert.KernelIdeal.Gen

/-! ## The values -/

section Values

variable (x0 : Vec Ideal S8x3x512 .f32) (x1 : Vec Ideal S8x3x512x1 .f32)

/-- Coordinate `k` of point `i` of patch `s` of the block. -/
def pt (s : Fin 8) (k : Fin 3) (i : Fin 512) : EReal := x0 (ix3 s k i)

/-- The squared distance of point `j`, read from the second array, to point `i`. -/
def gap (s : Fin 8) (j i : Fin 512) : EReal :=
  (x1 (ix4 s 0 j 0) - x0 (ix3 s 0 i)) * (x1 (ix4 s 0 j 0) - x0 (ix3 s 0 i))
    + (x1 (ix4 s 1 j 0) - x0 (ix3 s 1 i)) * (x1 (ix4 s 1 j 0) - x0 (ix3 s 1 i))
    + (x1 (ix4 s 2 j 0) - x0 (ix3 s 2 i)) * (x1 (ix4 s 2 j 0) - x0 (ix3 s 2 i))

open Classical in
/-- The distances to point `i` after the zero and then fifteen least are dropped. -/
def sel (s : Fin 8) (j i : Fin 512) : EReal :=
  dropLeast^[15] (fun j => if gap x0 x1 s j i = 0 then ⊤ else gap x0 x1 s j i) j

open Classical in
/-- One at a dropped distance, zero at one that is still there. -/
def wt (s : Fin 8) (j i : Fin 512) : EReal := if sel x0 x1 s j i = gap x0 x1 s j i then 0 else 1

/-- The ten rows that are summed. -/
def row (s : Fin 8) (k : Fin 10) (j : Fin 512) : EReal :=
  match k.val with
  | 0 => pt x0 s 0 j
  | 1 => pt x0 s 1 j
  | 2 => pt x0 s 2 j
  | 3 => pt x0 s 0 j * pt x0 s 0 j
  | 4 => pt x0 s 1 j * pt x0 s 1 j
  | 5 => pt x0 s 2 j * pt x0 s 2 j
  | 6 => pt x0 s 0 j * pt x0 s 1 j
  | 7 => pt x0 s 0 j * pt x0 s 2 j
  | 8 => pt x0 s 1 j * pt x0 s 2 j
  | _ => 1

/-- Row `k`'s sum over the points near `i`. -/
def mom (s : Fin 8) (k : Fin 10) (i : Fin 512) : EReal := ∑ j, row x0 s k j * wt x0 x1 s j i

end Values

/-! ## The rounds -/

theorem ofBits_inf : Ideal.ofBits .f32 0x7F800000#32 = ⊤ := by simp [Ideal.ofBits, Ideal.ieee]

theorem step_apply (a : FVec Ideal S512x512 .f32) (j i : Fin 512) :
    k0_pay9 (F := Ideal) a (ix2 j i) = dropLeast (fun j => (a (ix2 j i) : EReal)) j := by
  pointwise [k0_pay9]
  rw [show Ideal.ofBits FTy.f32 2139095040#32 = ⊤ from ofBits_inf]
  unfold dropLeast leastOf
  congr 1

theorem fold_apply {n : ℕ} (init : FVec Ideal S512x512 .f32) (j i : Fin 512) :
    Scf.fold (fun (_ : Fin n) a => k0_pay9 (F := Ideal) a) init (ix2 j i)
      = dropLeast^[n] (fun j => (init (ix2 j i) : EReal)) j := by
  have h : ∀ (l : List (Fin n)) (a : FVec Ideal S512x512 .f32) (j : Fin 512),
      l.foldl (fun acc _ => k0_pay9 (F := Ideal) acc) a (ix2 j i)
        = dropLeast^[l.length] (fun j => (a (ix2 j i) : EReal)) j := by
    intro l
    induction l with
    | nil => intro a j; rfl
    | cons x l ih =>
      intro a j
      rw [List.foldl_cons, ih, List.length_cons, Function.iterate_succ_apply]
      exact congrFun (congrArg (dropLeast^[l.length]) (funext fun j => step_apply a j i)) j
  rw [Scf.fold_eq, h, List.length_finRange]

/-- The loop's rounds, for each of the places that it stands at. -/
theorem rounds_apply {n : ℕ} (hn : n = 15) (g : FVec Ideal S512x512 .f32 → FVec Ideal S512x512 .f32)
    (hg : ∀ a, g a = k0_pay9 (F := Ideal) a) (init : FVec Ideal S512x512 .f32) (w : Fin 512 → EReal) (j i : Fin 512)
    (hw : ∀ j, (init (ix2 j i) : EReal) = w j) :
    Scf.fold (fun (_ : Fin n) a => g a) init (ix2 j i) = dropLeast^[15] w j := by
  subst hn
  obtain rfl : w = fun j => (init (ix2 j i) : EReal) := (funext hw).symm
  obtain rfl : g = k0_pay9 (F := Ideal) := funext hg
  exact fold_apply init j i

section Patches

variable (c : Dev nD) (arg1 : Memref sig .tc .vmem S8x3x512 .f32) (harg1 : arg1.IsWhole)
  (arg2 : Memref sig .tc .vmem S8x3x512x1 .f32) (harg2 : arg2.IsWhole)
  (x0 : Vec Ideal S8x3x512 .f32) (x1 : Vec Ideal S8x3x512x1 .f32)

theorem load0 : View.readAt (Elt Ideal) arg1.view
      (Rect.unit ![0, 0, 0] S8x3x512.size inb_S8x3x512_S8x3x512_0_0_0).toLoadRect (harg1.unread x0) = x0 := by
  funext j
  idx_vars j
  rw [Memref.IsWhole.readAt_unread]
  pointwise

theorem load1 : View.readAt (Elt Ideal) arg2.view
      (Rect.unit ![0, 0, 0, 0] S8x3x512x1.size inb_S8x3x512x1_S8x3x512x1_0_0_0_0).toLoadRect (harg2.unread x1) = x1 := by
  funext j
  idx_vars j
  rw [Memref.IsWhole.readAt_unread]
  pointwise
  rw [Subsingleton.elim j3 0]

theorem r1_eq : kernelRun0_A.sl.r_1 c arg1 harg1 x0 = x0 := by
  unfold kernelRun0_A.sl.r_1
  rw [load0]
  funext j
  idx_vars j
  pointwise [k0_pay2]

theorem r2_eq : kernelRun0_A.sl.r_2 c arg2 harg2 x1 = x1 := by
  unfold kernelRun0_A.sl.r_2
  rw [load1]
  funext j
  idx_vars j
  pointwise [k0_pay3]

/-! ### Patch 0 -/

theorem fold0_apply (j i : Fin 512) : kernelRun0_A.sl.r c arg1 harg1 arg2 harg2 x0 x1 (ix2 j i) = sel x0 x1 0 j i := by
  unfold kernelRun0_A.sl.r
  refine rounds_apply (by decide) _ (fun _ => rfl) _ _ j i fun j => ?_
  simp only [kernelRun0_A.sl.r_3, kernelRun0_A.sl.r_4, kernelRun0_A.sl.r_5, kernelRun0_A.sl.r_7, kernelRun0_A.sl.r_8, kernelRun0_A.sl.r_9, load0, load1, r1_eq, r2_eq]
  erw [load0, load1]
  pointwise [k0_pay8, k0_pay7, k0_pay2, k0_pay3, k0_pay4, k0_pay5, k0_pay6]
  rw [show Ideal.ofBits FTy.f32 2139095040#32 = ⊤ from ofBits_inf]
  unfold gap
  rfl

theorem mom0_apply (k : Fin 10) (i : Fin 512) : kernelRun0_A.sl.r_11 c arg1 harg1 arg2 harg2 x0 x1 (ix2 k i) = mom x0 x1 0 k i := by
  have hf := fold0_apply c arg1 harg1 arg2 harg2 x0 x1
  unfold kernelRun0_A.sl.r_11
  simp only [kernelRun0_A.sl.r_3, kernelRun0_A.sl.r_4, kernelRun0_A.sl.r_5, kernelRun0_A.sl.r_6, kernelRun0_A.sl.r_7, kernelRun0_A.sl.r_8, kernelRun0_A.sl.r_9, load0, load1, r1_eq, r2_eq]
  generalize (kernelRun0_A.sl.r c arg1 harg1 arg2 harg2 x0 x1) = w at hf ⊢
  erw [load0, load1]
  pointwise [k0_pay15, k0_pay10, k0_pay11, k0_pay12, k0_pay13, k0_pay14, k0_pay7, k0_pay2, k0_pay3, k0_pay4, k0_pay5, k0_pay6]
  unfold mom
  refine Finset.sum_congr rfl fun j _ => ?_
  rw [hf]
  refine congr (congrArg HMul.hMul ?_) ?_
  · fin_vals k with hk <;> simp [hk, row, pt]
  · rfl

/-! ### Patch 1 -/

theorem fold1_apply (j i : Fin 512) : kernelRun0_A.sl.r_10 c arg1 harg1 arg2 harg2 x0 x1 (ix2 j i) = sel x0 x1 1 j i := by
  unfold kernelRun0_A.sl.r_10
  refine rounds_apply (by decide) _ (fun _ => rfl) _ _ j i fun j => ?_
  simp only [load0, load1, r1_eq, r2_eq]
  pointwise [k0_pay20, k0_pay19, k0_pay16, k0_pay17, k0_pay18]
  rw [show Ideal.ofBits FTy.f32 2139095040#32 = ⊤ from ofBits_inf]
  unfold gap
  rfl

theorem mom1_apply (k : Fin 10) (i : Fin 512) : kernelRun0_A.sl.r_12 c arg1 harg1 arg2 harg2 x0 x1 (ix2 k i) = mom x0 x1 1 k i := by
  have hf := fold1_apply c arg1 harg1 arg2 harg2 x0 x1
  unfold kernelRun0_A.sl.r_12
  simp only [load0, load1, r1_eq, r2_eq]
  generalize (kernelRun0_A.sl.r_10 c arg1 harg1 arg2 harg2 x0 x1) = w at hf ⊢
  pointwise [k0_pay22, k0_pay19, k0_pay16, k0_pay17, k0_pay18]
  unfold mom
  refine Finset.sum_congr rfl fun j _ => ?_
  rw [hf]
  refine congr (congrArg HMul.hMul ?_) ?_
  · fin_vals k with hk <;> simp [hk, row, pt]
  · rfl

/-! ### Patch 2 -/

theorem fold2_apply (j i : Fin 512) : kernelRun0_A.sl.r_13 c arg1 harg1 arg2 harg2 x0 x1 (ix2 j i) = sel x0 x1 2 j i := by
  unfold kernelRun0_A.sl.r_13
  refine rounds_apply (by decide) _ (fun _ => rfl) _ _ j i fun j => ?_
  simp only [load0, load1, r1_eq, r2_eq]
  pointwise [k0_pay27, k0_pay26, k0_pay23, k0_pay24, k0_pay25]
  rw [show Ideal.ofBits FTy.f32 2139095040#32 = ⊤ from ofBits_inf]
  unfold gap
  rfl

theorem mom2_apply (k : Fin 10) (i : Fin 512) : kernelRun0_A.sl.r_14 c arg1 harg1 arg2 harg2 x0 x1 (ix2 k i) = mom x0 x1 2 k i := by
  have hf := fold2_apply c arg1 harg1 arg2 harg2 x0 x1
  unfold kernelRun0_A.sl.r_14
  simp only [load0, load1, r1_eq, r2_eq]
  generalize (kernelRun0_A.sl.r_13 c arg1 harg1 arg2 harg2 x0 x1) = w at hf ⊢
  pointwise [k0_pay29, k0_pay26, k0_pay23, k0_pay24, k0_pay25]
  unfold mom
  refine Finset.sum_congr rfl fun j _ => ?_
  rw [hf]
  refine congr (congrArg HMul.hMul ?_) ?_
  · fin_vals k with hk <;> simp [hk, row, pt]
  · rfl

/-! ### Patch 3 -/

theorem fold3_apply (j i : Fin 512) : kernelRun0_A.sl.r_18 c arg1 harg1 arg2 harg2 x0 x1 (ix2 j i) = sel x0 x1 3 j i := by
  unfold kernelRun0_A.sl.r_18
  refine rounds_apply (by decide) _ (fun _ => rfl) _ _ j i fun j => ?_
  simp only [kernelRun0_A.sl.r_15, kernelRun0_A.sl.r_16, kernelRun0_A.sl.r_17, load0, load1, r1_eq, r2_eq]
  pointwise [k0_pay34, k0_pay33, k0_pay30, k0_pay31, k0_pay32]
  rw [show Ideal.ofBits FTy.f32 2139095040#32 = ⊤ from ofBits_inf]
  unfold gap
  rfl

theorem mom3_apply (k : Fin 10) (i : Fin 512) : kernelRun0_A.sl.r_19 c arg1 harg1 arg2 harg2 x0 x1 (ix2 k i) = mom x0 x1 3 k i := by
  have hf := fold3_apply c arg1 harg1 arg2 harg2 x0 x1
  unfold kernelRun0_A.sl.r_19
  simp only [kernelRun0_A.sl.r_15, kernelRun0_A.sl.r_16, kernelRun0_A.sl.r_17, load0, load1, r1_eq, r2_eq]
  generalize (kernelRun0_A.sl.r_18 c arg1 harg1 arg2 harg2 x0 x1) = w at hf ⊢
  pointwise [k0_pay36, k0_pay33, k0_pay30, k0_pay31, k0_pay32]
  unfold mom
  refine Finset.sum_congr rfl fun j _ => ?_
  rw [hf]
  refine congr (congrArg HMul.hMul ?_) ?_
  · fin_vals k with hk <;> simp [hk, row, pt]
  · rfl

/-! ### Patch 4 -/

theorem fold4_apply (j i : Fin 512) : kernelRun0_A.sl.r_26 c arg1 harg1 arg2 harg2 x0 x1 (ix2 j i) = sel x0 x1 4 j i := by
  unfold kernelRun0_A.sl.r_26
  refine rounds_apply (by decide) _ (fun _ => rfl) _ _ j i fun j => ?_
  simp only [kernelRun0_A.sl.r_20, kernelRun0_A.sl.r_21, kernelRun0_A.sl.r_22, kernelRun0_A.sl.r_23, kernelRun0_A.sl.r_24, kernelRun0_A.sl.r_25, load0, load1, r1_eq, r2_eq]
  pointwise [k0_pay44, k0_pay43, k0_pay37, k0_pay38, k0_pay39, k0_pay40, k0_pay41, k0_pay42]
  rw [show Ideal.ofBits FTy.f32 2139095040#32 = ⊤ from ofBits_inf]
  unfold gap
  rfl

theorem mom4_apply (k : Fin 10) (i : Fin 512) : kernelRun0_A.sl.r_27 c arg1 harg1 arg2 harg2 x0 x1 (ix2 k i) = mom x0 x1 4 k i := by
  have hf := fold4_apply c arg1 harg1 arg2 harg2 x0 x1
  unfold kernelRun0_A.sl.r_27
  simp only [kernelRun0_A.sl.r_20, kernelRun0_A.sl.r_21, kernelRun0_A.sl.r_22, kernelRun0_A.sl.r_23, kernelRun0_A.sl.r_24, kernelRun0_A.sl.r_25, load0, load1, r1_eq, r2_eq]
  generalize (kernelRun0_A.sl.r_26 c arg1 harg1 arg2 harg2 x0 x1) = w at hf ⊢
  pointwise [k0_pay46, k0_pay43, k0_pay37, k0_pay38, k0_pay39, k0_pay40, k0_pay41, k0_pay42]
  unfold mom
  refine Finset.sum_congr rfl fun j _ => ?_
  rw [hf]
  refine congr (congrArg HMul.hMul ?_) ?_
  · fin_vals k with hk <;> simp [hk, row, pt]
  · rfl

/-! ### Patch 5 -/

theorem fold5_apply (j i : Fin 512) : kernelRun0_A.sl.r_35 c arg1 harg1 arg2 harg2 x0 x1 (ix2 j i) = sel x0 x1 5 j i := by
  unfold kernelRun0_A.sl.r_35
  refine rounds_apply (by decide) _ (fun _ => rfl) _ _ j i fun j => ?_
  simp only [kernelRun0_A.sl.r_28, kernelRun0_A.sl.r_29, kernelRun0_A.sl.r_30, kernelRun0_A.sl.r_31, kernelRun0_A.sl.r_32, kernelRun0_A.sl.r_33, kernelRun0_A.sl.r_34, load0, load1, r1_eq, r2_eq]
  pointwise [k0_pay55, k0_pay54, k0_pay47, k0_pay48, k0_pay49, k0_pay50, k0_pay51, k0_pay52, k0_pay53]
  rw [show Ideal.ofBits FTy.f32 2139095040#32 = ⊤ from ofBits_inf]
  unfold gap
  rfl

theorem mom5_apply (k : Fin 10) (i : Fin 512) : kernelRun0_A.sl.r_36 c arg1 harg1 arg2 harg2 x0 x1 (ix2 k i) = mom x0 x1 5 k i := by
  have hf := fold5_apply c arg1 harg1 arg2 harg2 x0 x1
  unfold kernelRun0_A.sl.r_36
  simp only [kernelRun0_A.sl.r_28, kernelRun0_A.sl.r_29, kernelRun0_A.sl.r_30, kernelRun0_A.sl.r_31, kernelRun0_A.sl.r_32, kernelRun0_A.sl.r_33, kernelRun0_A.sl.r_34, load0, load1, r1_eq, r2_eq]
  generalize (kernelRun0_A.sl.r_35 c arg1 harg1 arg2 harg2 x0 x1) = w at hf ⊢
  pointwise [k0_pay57, k0_pay54, k0_pay47, k0_pay48, k0_pay49, k0_pay50, k0_pay51, k0_pay52, k0_pay53]
  unfold mom
  refine Finset.sum_congr rfl fun j _ => ?_
  rw [hf]
  refine congr (congrArg HMul.hMul ?_) ?_
  · fin_vals k with hk <;> simp [hk, row, pt]
  · rfl

/-! ### Patch 6 -/

theorem fold6_apply (j i : Fin 512) : kernelRun0_A.sl.r_42 c arg1 harg1 arg2 harg2 x0 x1 (ix2 j i) = sel x0 x1 6 j i := by
  unfold kernelRun0_A.sl.r_42
  refine rounds_apply (by decide) _ (fun _ => rfl) _ _ j i fun j => ?_
  simp only [kernelRun0_A.sl.r_37, kernelRun0_A.sl.r_38, kernelRun0_A.sl.r_39, kernelRun0_A.sl.r_40, kernelRun0_A.sl.r_41, load0, load1, r1_eq, r2_eq]
  pointwise [k0_pay64, k0_pay63, k0_pay58, k0_pay59, k0_pay60, k0_pay61, k0_pay62]
  rw [show Ideal.ofBits FTy.f32 2139095040#32 = ⊤ from ofBits_inf]
  unfold gap
  rfl

theorem mom6_apply (k : Fin 10) (i : Fin 512) : kernelRun0_A.sl.r_43 c arg1 harg1 arg2 harg2 x0 x1 (ix2 k i) = mom x0 x1 6 k i := by
  have hf := fold6_apply c arg1 harg1 arg2 harg2 x0 x1
  unfold kernelRun0_A.sl.r_43
  simp only [kernelRun0_A.sl.r_37, kernelRun0_A.sl.r_38, kernelRun0_A.sl.r_39, kernelRun0_A.sl.r_40, kernelRun0_A.sl.r_41, load0, load1, r1_eq, r2_eq]
  generalize (kernelRun0_A.sl.r_42 c arg1 harg1 arg2 harg2 x0 x1) = w at hf ⊢
  pointwise [k0_pay66, k0_pay63, k0_pay58, k0_pay59, k0_pay60, k0_pay61, k0_pay62]
  unfold mom
  refine Finset.sum_congr rfl fun j _ => ?_
  rw [hf]
  refine congr (congrArg HMul.hMul ?_) ?_
  · fin_vals k with hk <;> simp [hk, row, pt]
  · rfl

/-! ### Patch 7 -/

theorem fold7_apply (j i : Fin 512) : kernelRun0_A.sl.r_49 c arg1 harg1 arg2 harg2 x0 x1 (ix2 j i) = sel x0 x1 7 j i := by
  unfold kernelRun0_A.sl.r_49
  refine rounds_apply (by decide) _ (fun _ => rfl) _ _ j i fun j => ?_
  simp only [kernelRun0_A.sl.r_44, kernelRun0_A.sl.r_45, kernelRun0_A.sl.r_46, kernelRun0_A.sl.r_47, kernelRun0_A.sl.r_48, load0, load1, r1_eq, r2_eq]
  unfold kernelRun0_A.sl.cst_66
  pointwise [k0_pay72, k0_pay71, k0_pay70, k0_pay67, k0_pay68, k0_pay69]
  rw [show Ideal.ofBits FTy.f32 2139095040#32 = ⊤ from ofBits_inf]
  unfold gap
  rfl

theorem mom7_apply (k : Fin 10) (i : Fin 512) : kernelRun0_A.sl.r_50 c arg1 harg1 arg2 harg2 x0 x1 (ix2 k i) = mom x0 x1 7 k i := by
  have hf := fold7_apply c arg1 harg1 arg2 harg2 x0 x1
  unfold kernelRun0_A.sl.r_50
  simp only [kernelRun0_A.sl.r_44, kernelRun0_A.sl.r_45, kernelRun0_A.sl.r_46, kernelRun0_A.sl.r_47, load0, load1, r1_eq, r2_eq]
  generalize (kernelRun0_A.sl.r_49 c arg1 harg1 arg2 harg2 x0 x1) = w at hf ⊢
  pointwise [k0_pay74, k0_pay70, k0_pay67, k0_pay68, k0_pay69]
  unfold mom
  refine Finset.sum_congr rfl fun j _ => ?_
  rw [hf]
  refine congr (congrArg HMul.hMul ?_) ?_
  · fin_vals k with hk <;> simp [hk, row, pt]
  · rfl

end Patches

end Cert.Proof

end
-- ==== Proof.Point.lean ====
/- What the kernel computes for one point of its block: the covariance of the near points over its trace, the least root of
   its characteristic polynomial, and the longest column of the matrix that projects on the root's eigenvectors. -/
module

public import proofs.«01_k».proof.Proof.Patch

@[expose] public section

set_option maxRecDepth 16384

noncomputable section

namespace Cert.Proof

open Idealize.ShloMosaic Idealize.SL.Sem Cert.KernelIdeal Cert.KernelIdeal.Gen

/-- The covariance sums about point `i`, from the sums of the coordinates and of their products. -/
def kcov (x0 : Vec Ideal S8x3x512 .f32) (x1 : Vec Ideal S8x3x512x1 .f32) (s : Fin 8) (i : Fin 512) : Sym :=
  let m := fun k => mom x0 x1 s k i
  let p := fun k => pt x0 s k i
  ⟨m 3 - p 0 * (cTwo * m 0 - m 9 * p 0), m 6 - p 0 * m 1 - p 1 * m 0 + m 9 * p 0 * p 1,
   m 7 - p 0 * m 2 - p 2 * m 0 + m 9 * p 0 * p 2, m 4 - p 1 * (cTwo * m 1 - m 9 * p 1),
   m 8 - p 1 * m 2 - p 2 * m 1 + m 9 * p 1 * p 2, m 5 - p 2 * (cTwo * m 2 - m 9 * p 2)⟩

section Points

variable (c : Dev nD) (arg1 : Memref sig .tc .vmem S8x3x512 .f32) (harg1 : arg1.IsWhole)
  (arg2 : Memref sig .tc .vmem S8x3x512x1 .f32) (harg2 : arg2.IsWhole)
  (x0 : Vec Ideal S8x3x512 .f32) (x1 : Vec Ideal S8x3x512x1 .f32) (s : Fin 8) (i : Fin 512)

theorem r51_apply : kernelRun0_A.sl.r_51 c arg1 harg1 x0 (ix2 s i) = pt x0 s 0 i := by
  unfold kernelRun0_A.sl.r_51
  rw [r1_eq]
  pointwise [k0_pay75]
  rfl

theorem r52_apply : kernelRun0_A.sl.r_52 c arg1 harg1 x0 (ix2 s i) = pt x0 s 1 i := by
  unfold kernelRun0_A.sl.r_52
  rw [r1_eq]
  pointwise [k0_pay76]
  rfl

theorem r53_apply : kernelRun0_A.sl.r_53 c arg1 harg1 x0 (ix2 s i) = pt x0 s 2 i := by
  unfold kernelRun0_A.sl.r_53
  rw [r1_eq]
  pointwise [k0_pay77]
  rfl

theorem r54_apply : kernelRun0_A.sl.r_54 c arg1 harg1 arg2 harg2 x0 x1 (ix2 s i) = mom x0 x1 s 0 i := by
  have h0 := mom0_apply c arg1 harg1 arg2 harg2 x0 x1 0 i
  have h1 := mom1_apply c arg1 harg1 arg2 harg2 x0 x1 0 i
  have h2 := mom2_apply c arg1 harg1 arg2 harg2 x0 x1 0 i
  have h3 := mom3_apply c arg1 harg1 arg2 harg2 x0 x1 0 i
  have h4 := mom4_apply c arg1 harg1 arg2 harg2 x0 x1 0 i
  have h5 := mom5_apply c arg1 harg1 arg2 harg2 x0 x1 0 i
  have h6 := mom6_apply c arg1 harg1 arg2 harg2 x0 x1 0 i
  have h7 := mom7_apply c arg1 harg1 arg2 harg2 x0 x1 0 i
  unfold kernelRun0_A.sl.r_50 at h7
  unfold kernelRun0_A.sl.r_54
  unfold k0_pay78
  generalize kernelRun0_A.sl.r_11 c arg1 harg1 arg2 harg2 x0 x1 = w0 at h0 ⊢
  generalize kernelRun0_A.sl.r_12 c arg1 harg1 arg2 harg2 x0 x1 = w1 at h1 ⊢
  generalize kernelRun0_A.sl.r_14 c arg1 harg1 arg2 harg2 x0 x1 = w2 at h2 ⊢
  generalize kernelRun0_A.sl.r_19 c arg1 harg1 arg2 harg2 x0 x1 = w3 at h3 ⊢
  generalize kernelRun0_A.sl.r_27 c arg1 harg1 arg2 harg2 x0 x1 = w4 at h4 ⊢
  generalize kernelRun0_A.sl.r_36 c arg1 harg1 arg2 harg2 x0 x1 = w5 at h5 ⊢
  generalize kernelRun0_A.sl.r_43 c arg1 harg1 arg2 harg2 x0 x1 = w6 at h6 ⊢
  generalize k0_pay74 (F := Ideal) _ _ _ _ _ = w7 at h7 ⊢
  pointwise [k0_pay78]
  fin_vals s with hs
  · obtain rfl : s = 0 := Fin.ext hs
    exact h0
  · obtain rfl : s = 1 := Fin.ext hs
    exact h1
  · obtain rfl : s = 2 := Fin.ext hs
    exact h2
  · obtain rfl : s = 3 := Fin.ext hs
    exact h3
  · obtain rfl : s = 4 := Fin.ext hs
    exact h4
  · obtain rfl : s = 5 := Fin.ext hs
    exact h5
  · obtain rfl : s = 6 := Fin.ext hs
    exact h6
  · obtain rfl : s = 7 := Fin.ext hs
    exact h7

theorem r55_apply : kernelRun0_A.sl.r_55 c arg1 harg1 arg2 harg2 x0 x1 (ix2 s i) = mom x0 x1 s 1 i := by
  have h0 := mom0_apply c arg1 harg1 arg2 harg2 x0 x1 1 i
  have h1 := mom1_apply c arg1 harg1 arg2 harg2 x0 x1 1 i
  have h2 := mom2_apply c arg1 harg1 arg2 harg2 x0 x1 1 i
  have h3 := mom3_apply c arg1 harg1 arg2 harg2 x0 x1 1 i
  have h4 := mom4_apply c arg1 harg1 arg2 harg2 x0 x1 1 i
  have h5 := mom5_apply c arg1 harg1 arg2 harg2 x0 x1 1 i
  have h6 := mom6_apply c arg1 harg1 arg2 harg2 x0 x1 1 i
  have h7 := mom7_apply c arg1 harg1 arg2 harg2 x0 x1 1 i
  unfold kernelRun0_A.sl.r_50 at h7
  unfold kernelRun0_A.sl.r_55
  unfold k0_pay79
  generalize kernelRun0_A.sl.r_11 c arg1 harg1 arg2 harg2 x0 x1 = w0 at h0 ⊢
  generalize kernelRun0_A.sl.r_12 c arg1 harg1 arg2 harg2 x0 x1 = w1 at h1 ⊢
  generalize kernelRun0_A.sl.r_14 c arg1 harg1 arg2 harg2 x0 x1 = w2 at h2 ⊢
  generalize kernelRun0_A.sl.r_19 c arg1 harg1 arg2 harg2 x0 x1 = w3 at h3 ⊢
  generalize kernelRun0_A.sl.r_27 c arg1 harg1 arg2 harg2 x0 x1 = w4 at h4 ⊢
  generalize kernelRun0_A.sl.r_36 c arg1 harg1 arg2 harg2 x0 x1 = w5 at h5 ⊢
  generalize kernelRun0_A.sl.r_43 c arg1 harg1 arg2 harg2 x0 x1 = w6 at h6 ⊢
  generalize k0_pay74 (F := Ideal) _ _ _ _ _ = w7 at h7 ⊢
  pointwise [k0_pay79]
  fin_vals s with hs
  · obtain rfl : s = 0 := Fin.ext hs
    exact h0
  · obtain rfl : s = 1 := Fin.ext hs
    exact h1
  · obtain rfl : s = 2 := Fin.ext hs
    exact h2
  · obtain rfl : s = 3 := Fin.ext hs
    exact h3
  · obtain rfl : s = 4 := Fin.ext hs
    exact h4
  · obtain rfl : s = 5 := Fin.ext hs
    exact h5
  · obtain rfl : s = 6 := Fin.ext hs
    exact h6
  · obtain rfl : s = 7 := Fin.ext hs
    exact h7

theorem r56_apply : kernelRun0_A.sl.r_56 c arg1 harg1 arg2 harg2 x0 x1 (ix2 s i) = mom x0 x1 s 2 i := by
  have h0 := mom0_apply c arg1 harg1 arg2 harg2 x0 x1 2 i
  have h1 := mom1_apply c arg1 harg1 arg2 harg2 x0 x1 2 i
  have h2 := mom2_apply c arg1 harg1 arg2 harg2 x0 x1 2 i
  have h3 := mom3_apply c arg1 harg1 arg2 harg2 x0 x1 2 i
  have h4 := mom4_apply c arg1 harg1 arg2 harg2 x0 x1 2 i
  have h5 := mom5_apply c arg1 harg1 arg2 harg2 x0 x1 2 i
  have h6 := mom6_apply c arg1 harg1 arg2 harg2 x0 x1 2 i
  have h7 := mom7_apply c arg1 harg1 arg2 harg2 x0 x1 2 i
  unfold kernelRun0_A.sl.r_50 at h7
  unfold kernelRun0_A.sl.r_56
  unfold k0_pay80
  generalize kernelRun0_A.sl.r_11 c arg1 harg1 arg2 harg2 x0 x1 = w0 at h0 ⊢
  generalize kernelRun0_A.sl.r_12 c arg1 harg1 arg2 harg2 x0 x1 = w1 at h1 ⊢
  generalize kernelRun0_A.sl.r_14 c arg1 harg1 arg2 harg2 x0 x1 = w2 at h2 ⊢
  generalize kernelRun0_A.sl.r_19 c arg1 harg1 arg2 harg2 x0 x1 = w3 at h3 ⊢
  generalize kernelRun0_A.sl.r_27 c arg1 harg1 arg2 harg2 x0 x1 = w4 at h4 ⊢
  generalize kernelRun0_A.sl.r_36 c arg1 harg1 arg2 harg2 x0 x1 = w5 at h5 ⊢
  generalize kernelRun0_A.sl.r_43 c arg1 harg1 arg2 harg2 x0 x1 = w6 at h6 ⊢
  generalize k0_pay74 (F := Ideal) _ _ _ _ _ = w7 at h7 ⊢
  pointwise [k0_pay80]
  fin_vals s with hs
  · obtain rfl : s = 0 := Fin.ext hs
    exact h0
  · obtain rfl : s = 1 := Fin.ext hs
    exact h1
  · obtain rfl : s = 2 := Fin.ext hs
    exact h2
  · obtain rfl : s = 3 := Fin.ext hs
    exact h3
  · obtain rfl : s = 4 := Fin.ext hs
    exact h4
  · obtain rfl : s = 5 := Fin.ext hs
    exact h5
  · obtain rfl : s = 6 := Fin.ext hs
    exact h6
  · obtain rfl : s = 7 := Fin.ext hs
    exact h7

theorem r60_apply : kernelRun0_A.sl.r_60 c arg1 harg1 arg2 harg2 x0 x1 (ix2 s i) = mom x0 x1 s 3 i := by
  have h0 := mom0_apply c arg1 harg1 arg2 harg2 x0 x1 3 i
  have h1 := mom1_apply c arg1 harg1 arg2 harg2 x0 x1 3 i
  have h2 := mom2_apply c arg1 harg1 arg2 harg2 x0 x1 3 i
  have h3 := mom3_apply c arg1 harg1 arg2 harg2 x0 x1 3 i
  have h4 := mom4_apply c arg1 harg1 arg2 harg2 x0 x1 3 i
  have h5 := mom5_apply c arg1 harg1 arg2 harg2 x0 x1 3 i
  have h6 := mom6_apply c arg1 harg1 arg2 harg2 x0 x1 3 i
  have h7 := mom7_apply c arg1 harg1 arg2 harg2 x0 x1 3 i
  unfold kernelRun0_A.sl.r_60 kernelRun0_A.sl.r_57 kernelRun0_A.sl.r_58 kernelRun0_A.sl.r_59
  generalize kernelRun0_A.sl.r_11 c arg1 harg1 arg2 harg2 x0 x1 = w0 at h0 ⊢
  generalize kernelRun0_A.sl.r_12 c arg1 harg1 arg2 harg2 x0 x1 = w1 at h1 ⊢
  generalize kernelRun0_A.sl.r_14 c arg1 harg1 arg2 harg2 x0 x1 = w2 at h2 ⊢
  generalize kernelRun0_A.sl.r_19 c arg1 harg1 arg2 harg2 x0 x1 = w3 at h3 ⊢
  generalize kernelRun0_A.sl.r_27 c arg1 harg1 arg2 harg2 x0 x1 = w4 at h4 ⊢
  generalize kernelRun0_A.sl.r_36 c arg1 harg1 arg2 harg2 x0 x1 = w5 at h5 ⊢
  generalize kernelRun0_A.sl.r_43 c arg1 harg1 arg2 harg2 x0 x1 = w6 at h6 ⊢
  generalize kernelRun0_A.sl.r_50 c arg1 harg1 arg2 harg2 x0 x1 = w7 at h7 ⊢
  pointwise [k0_pay84, k0_pay81, k0_pay82, k0_pay83]
  fin_vals s with hs
  · obtain rfl : s = 0 := Fin.ext hs
    exact h0
  · obtain rfl : s = 1 := Fin.ext hs
    exact h1
  · obtain rfl : s = 2 := Fin.ext hs
    exact h2
  · obtain rfl : s = 3 := Fin.ext hs
    exact h3
  · obtain rfl : s = 4 := Fin.ext hs
    exact h4
  · obtain rfl : s = 5 := Fin.ext hs
    exact h5
  · obtain rfl : s = 6 := Fin.ext hs
    exact h6
  · obtain rfl : s = 7 := Fin.ext hs
    exact h7

theorem r61_apply : kernelRun0_A.sl.r_61 c arg1 harg1 arg2 harg2 x0 x1 (ix2 s i) = mom x0 x1 s 4 i := by
  have h0 := mom0_apply c arg1 harg1 arg2 harg2 x0 x1 4 i
  have h1 := mom1_apply c arg1 harg1 arg2 harg2 x0 x1 4 i
  have h2 := mom2_apply c arg1 harg1 arg2 harg2 x0 x1 4 i
  have h3 := mom3_apply c arg1 harg1 arg2 harg2 x0 x1 4 i
  have h4 := mom4_apply c arg1 harg1 arg2 harg2 x0 x1 4 i
  have h5 := mom5_apply c arg1 harg1 arg2 harg2 x0 x1 4 i
  have h6 := mom6_apply c arg1 harg1 arg2 harg2 x0 x1 4 i
  have h7 := mom7_apply c arg1 harg1 arg2 harg2 x0 x1 4 i
  unfold kernelRun0_A.sl.r_61
  generalize kernelRun0_A.sl.r_11 c arg1 harg1 arg2 harg2 x0 x1 = w0 at h0 ⊢
  generalize kernelRun0_A.sl.r_12 c arg1 harg1 arg2 harg2 x0 x1 = w1 at h1 ⊢
  generalize kernelRun0_A.sl.r_14 c arg1 harg1 arg2 harg2 x0 x1 = w2 at h2 ⊢
  generalize kernelRun0_A.sl.r_19 c arg1 harg1 arg2 harg2 x0 x1 = w3 at h3 ⊢
  generalize kernelRun0_A.sl.r_27 c arg1 harg1 arg2 harg2 x0 x1 = w4 at h4 ⊢
  generalize kernelRun0_A.sl.r_36 c arg1 harg1 arg2 harg2 x0 x1 = w5 at h5 ⊢
  generalize kernelRun0_A.sl.r_43 c arg1 harg1 arg2 harg2 x0 x1 = w6 at h6 ⊢
  generalize kernelRun0_A.sl.r_50 c arg1 harg1 arg2 harg2 x0 x1 = w7 at h7 ⊢
  pointwise [k0_pay85]
  fin_vals s with hs
  · obtain rfl : s = 0 := Fin.ext hs
    exact h0
  · obtain rfl : s = 1 := Fin.ext hs
    exact h1
  · obtain rfl : s = 2 := Fin.ext hs
    exact h2
  · obtain rfl : s = 3 := Fin.ext hs
    exact h3
  · obtain rfl : s = 4 := Fin.ext hs
    exact h4
  · obtain rfl : s = 5 := Fin.ext hs
    exact h5
  · obtain rfl : s = 6 := Fin.ext hs
    exact h6
  · obtain rfl : s = 7 := Fin.ext hs
    exact h7

theorem r62_apply : kernelRun0_A.sl.r_62 c arg1 harg1 arg2 harg2 x0 x1 (ix2 s i) = mom x0 x1 s 5 i := by
  have h0 := mom0_apply c arg1 harg1 arg2 harg2 x0 x1 5 i
  have h1 := mom1_apply c arg1 harg1 arg2 harg2 x0 x1 5 i
  have h2 := mom2_apply c arg1 harg1 arg2 harg2 x0 x1 5 i
  have h3 := mom3_apply c arg1 harg1 arg2 harg2 x0 x1 5 i
  have h4 := mom4_apply c arg1 harg1 arg2 harg2 x0 x1 5 i
  have h5 := mom5_apply c arg1 harg1 arg2 harg2 x0 x1 5 i
  have h6 := mom6_apply c arg1 harg1 arg2 harg2 x0 x1 5 i
  have h7 := mom7_apply c arg1 harg1 arg2 harg2 x0 x1 5 i
  unfold kernelRun0_A.sl.r_62
  generalize kernelRun0_A.sl.r_11 c arg1 harg1 arg2 harg2 x0 x1 = w0 at h0 ⊢
  generalize kernelRun0_A.sl.r_12 c arg1 harg1 arg2 harg2 x0 x1 = w1 at h1 ⊢
  generalize kernelRun0_A.sl.r_14 c arg1 harg1 arg2 harg2 x0 x1 = w2 at h2 ⊢
  generalize kernelRun0_A.sl.r_19 c arg1 harg1 arg2 harg2 x0 x1 = w3 at h3 ⊢
  generalize kernelRun0_A.sl.r_27 c arg1 harg1 arg2 harg2 x0 x1 = w4 at h4 ⊢
  generalize kernelRun0_A.sl.r_36 c arg1 harg1 arg2 harg2 x0 x1 = w5 at h5 ⊢
  generalize kernelRun0_A.sl.r_43 c arg1 harg1 arg2 harg2 x0 x1 = w6 at h6 ⊢
  generalize kernelRun0_A.sl.r_50 c arg1 harg1 arg2 harg2 x0 x1 = w7 at h7 ⊢
  pointwise [k0_pay86]
  fin_vals s with hs
  · obtain rfl : s = 0 := Fin.ext hs
    exact h0
  · obtain rfl : s = 1 := Fin.ext hs
    exact h1
  · obtain rfl : s = 2 := Fin.ext hs
    exact h2
  · obtain rfl : s = 3 := Fin.ext hs
    exact h3
  · obtain rfl : s = 4 := Fin.ext hs
    exact h4
  · obtain rfl : s = 5 := Fin.ext hs
    exact h5
  · obtain rfl : s = 6 := Fin.ext hs
    exact h6
  · obtain rfl : s = 7 := Fin.ext hs
    exact h7

theorem r63_apply : kernelRun0_A.sl.r_63 c arg1 harg1 arg2 harg2 x0 x1 (ix2 s i) = mom x0 x1 s 6 i := by
  have h0 := mom0_apply c arg1 harg1 arg2 harg2 x0 x1 6 i
  have h1 := mom1_apply c arg1 harg1 arg2 harg2 x0 x1 6 i
  have h2 := mom2_apply c arg1 harg1 arg2 harg2 x0 x1 6 i
  have h3 := mom3_apply c arg1 harg1 arg2 harg2 x0 x1 6 i
  have h4 := mom4_apply c arg1 harg1 arg2 harg2 x0 x1 6 i
  have h5 := mom5_apply c arg1 harg1 arg2 harg2 x0 x1 6 i
  have h6 := mom6_apply c arg1 harg1 arg2 harg2 x0 x1 6 i
  have h7 := mom7_apply c arg1 harg1 arg2 harg2 x0 x1 6 i
  unfold kernelRun0_A.sl.r_63
  generalize kernelRun0_A.sl.r_11 c arg1 harg1 arg2 harg2 x0 x1 = w0 at h0 ⊢
  generalize kernelRun0_A.sl.r_12 c arg1 harg1 arg2 harg2 x0 x1 = w1 at h1 ⊢
  generalize kernelRun0_A.sl.r_14 c arg1 harg1 arg2 harg2 x0 x1 = w2 at h2 ⊢
  generalize kernelRun0_A.sl.r_19 c arg1 harg1 arg2 harg2 x0 x1 = w3 at h3 ⊢
  generalize kernelRun0_A.sl.r_27 c arg1 harg1 arg2 harg2 x0 x1 = w4 at h4 ⊢
  generalize kernelRun0_A.sl.r_36 c arg1 harg1 arg2 harg2 x0 x1 = w5 at h5 ⊢
  generalize kernelRun0_A.sl.r_43 c arg1 harg1 arg2 harg2 x0 x1 = w6 at h6 ⊢
  generalize kernelRun0_A.sl.r_50 c arg1 harg1 arg2 harg2 x0 x1 = w7 at h7 ⊢
  pointwise [k0_pay87]
  fin_vals s with hs
  · obtain rfl : s = 0 := Fin.ext hs
    exact h0
  · obtain rfl : s = 1 := Fin.ext hs
    exact h1
  · obtain rfl : s = 2 := Fin.ext hs
    exact h2
  · obtain rfl : s = 3 := Fin.ext hs
    exact h3
  · obtain rfl : s = 4 := Fin.ext hs
    exact h4
  · obtain rfl : s = 5 := Fin.ext hs
    exact h5
  · obtain rfl : s = 6 := Fin.ext hs
    exact h6
  · obtain rfl : s = 7 := Fin.ext hs
    exact h7

theorem r64_apply : kernelRun0_A.sl.r_64 c arg1 harg1 arg2 harg2 x0 x1 (ix2 s i) = mom x0 x1 s 7 i := by
  have h0 := mom0_apply c arg1 harg1 arg2 harg2 x0 x1 7 i
  have h1 := mom1_apply c arg1 harg1 arg2 harg2 x0 x1 7 i
  have h2 := mom2_apply c arg1 harg1 arg2 harg2 x0 x1 7 i
  have h3 := mom3_apply c arg1 harg1 arg2 harg2 x0 x1 7 i
  have h4 := mom4_apply c arg1 harg1 arg2 harg2 x0 x1 7 i
  have h5 := mom5_apply c arg1 harg1 arg2 harg2 x0 x1 7 i
  have h6 := mom6_apply c arg1 harg1 arg2 harg2 x0 x1 7 i
  have h7 := mom7_apply c arg1 harg1 arg2 harg2 x0 x1 7 i
  unfold kernelRun0_A.sl.r_64
  generalize kernelRun0_A.sl.r_11 c arg1 harg1 arg2 harg2 x0 x1 = w0 at h0 ⊢
  generalize kernelRun0_A.sl.r_12 c arg1 harg1 arg2 harg2 x0 x1 = w1 at h1 ⊢
  generalize kernelRun0_A.sl.r_14 c arg1 harg1 arg2 harg2 x0 x1 = w2 at h2 ⊢
  generalize kernelRun0_A.sl.r_19 c arg1 harg1 arg2 harg2 x0 x1 = w3 at h3 ⊢
  generalize kernelRun0_A.sl.r_27 c arg1 harg1 arg2 harg2 x0 x1 = w4 at h4 ⊢
  generalize kernelRun0_A.sl.r_36 c arg1 harg1 arg2 harg2 x0 x1 = w5 at h5 ⊢
  generalize kernelRun0_A.sl.r_43 c arg1 harg1 arg2 harg2 x0 x1 = w6 at h6 ⊢
  generalize kernelRun0_A.sl.r_50 c arg1 harg1 arg2 harg2 x0 x1 = w7 at h7 ⊢
  pointwise [k0_pay88]
  fin_vals s with hs
  · obtain rfl : s = 0 := Fin.ext hs
    exact h0
  · obtain rfl : s = 1 := Fin.ext hs
    exact h1
  · obtain rfl : s = 2 := Fin.ext hs
    exact h2
  · obtain rfl : s = 3 := Fin.ext hs
    exact h3
  · obtain rfl : s = 4 := Fin.ext hs
    exact h4
  · obtain rfl : s = 5 := Fin.ext hs
    exact h5
  · obtain rfl : s = 6 := Fin.ext hs
    exact h6
  · obtain rfl : s = 7 := Fin.ext hs
    exact h7

theorem r65_apply : kernelRun0_A.sl.r_65 c arg1 harg1 arg2 harg2 x0 x1 (ix2 s i) = mom x0 x1 s 8 i := by
  have h0 := mom0_apply c arg1 harg1 arg2 harg2 x0 x1 8 i
  have h1 := mom1_apply c arg1 harg1 arg2 harg2 x0 x1 8 i
  have h2 := mom2_apply c arg1 harg1 arg2 harg2 x0 x1 8 i
  have h3 := mom3_apply c arg1 harg1 arg2 harg2 x0 x1 8 i
  have h4 := mom4_apply c arg1 harg1 arg2 harg2 x0 x1 8 i
  have h5 := mom5_apply c arg1 harg1 arg2 harg2 x0 x1 8 i
  have h6 := mom6_apply c arg1 harg1 arg2 harg2 x0 x1 8 i
  have h7 := mom7_apply c arg1 harg1 arg2 harg2 x0 x1 8 i
  unfold kernelRun0_A.sl.r_65
  generalize kernelRun0_A.sl.r_11 c arg1 harg1 arg2 harg2 x0 x1 = w0 at h0 ⊢
  generalize kernelRun0_A.sl.r_12 c arg1 harg1 arg2 harg2 x0 x1 = w1 at h1 ⊢
  generalize kernelRun0_A.sl.r_14 c arg1 harg1 arg2 harg2 x0 x1 = w2 at h2 ⊢
  generalize kernelRun0_A.sl.r_19 c arg1 harg1 arg2 harg2 x0 x1 = w3 at h3 ⊢
  generalize kernelRun0_A.sl.r_27 c arg1 harg1 arg2 harg2 x0 x1 = w4 at h4 ⊢
  generalize kernelRun0_A.sl.r_36 c arg1 harg1 arg2 harg2 x0 x1 = w5 at h5 ⊢
  generalize kernelRun0_A.sl.r_43 c arg1 harg1 arg2 harg2 x0 x1 = w6 at h6 ⊢
  generalize kernelRun0_A.sl.r_50 c arg1 harg1 arg2 harg2 x0 x1 = w7 at h7 ⊢
  pointwise [k0_pay89]
  fin_vals s with hs
  · obtain rfl : s = 0 := Fin.ext hs
    exact h0
  · obtain rfl : s = 1 := Fin.ext hs
    exact h1
  · obtain rfl : s = 2 := Fin.ext hs
    exact h2
  · obtain rfl : s = 3 := Fin.ext hs
    exact h3
  · obtain rfl : s = 4 := Fin.ext hs
    exact h4
  · obtain rfl : s = 5 := Fin.ext hs
    exact h5
  · obtain rfl : s = 6 := Fin.ext hs
    exact h6
  · obtain rfl : s = 7 := Fin.ext hs
    exact h7

theorem r66_apply : kernelRun0_A.sl.r_66 c arg1 harg1 arg2 harg2 x0 x1 (ix2 s i) = mom x0 x1 s 9 i := by
  have h0 := mom0_apply c arg1 harg1 arg2 harg2 x0 x1 9 i
  have h1 := mom1_apply c arg1 harg1 arg2 harg2 x0 x1 9 i
  have h2 := mom2_apply c arg1 harg1 arg2 harg2 x0 x1 9 i
  have h3 := mom3_apply c arg1 harg1 arg2 harg2 x0 x1 9 i
  have h4 := mom4_apply c arg1 harg1 arg2 harg2 x0 x1 9 i
  have h5 := mom5_apply c arg1 harg1 arg2 harg2 x0 x1 9 i
  have h6 := mom6_apply c arg1 harg1 arg2 harg2 x0 x1 9 i
  have h7 := mom7_apply c arg1 harg1 arg2 harg2 x0 x1 9 i
  unfold kernelRun0_A.sl.r_66
  generalize kernelRun0_A.sl.r_11 c arg1 harg1 arg2 harg2 x0 x1 = w0 at h0 ⊢
  generalize kernelRun0_A.sl.r_12 c arg1 harg1 arg2 harg2 x0 x1 = w1 at h1 ⊢
  generalize kernelRun0_A.sl.r_14 c arg1 harg1 arg2 harg2 x0 x1 = w2 at h2 ⊢
  generalize kernelRun0_A.sl.r_19 c arg1 harg1 arg2 harg2 x0 x1 = w3 at h3 ⊢
  generalize kernelRun0_A.sl.r_27 c arg1 harg1 arg2 harg2 x0 x1 = w4 at h4 ⊢
  generalize kernelRun0_A.sl.r_36 c arg1 harg1 arg2 harg2 x0 x1 = w5 at h5 ⊢
  generalize kernelRun0_A.sl.r_43 c arg1 harg1 arg2 harg2 x0 x1 = w6 at h6 ⊢
  generalize kernelRun0_A.sl.r_50 c arg1 harg1 arg2 harg2 x0 x1 = w7 at h7 ⊢
  pointwise [k0_pay90]
  fin_vals s with hs
  · obtain rfl : s = 0 := Fin.ext hs
    exact h0
  · obtain rfl : s = 1 := Fin.ext hs
    exact h1
  · obtain rfl : s = 2 := Fin.ext hs
    exact h2
  · obtain rfl : s = 3 := Fin.ext hs
    exact h3
  · obtain rfl : s = 4 := Fin.ext hs
    exact h4
  · obtain rfl : s = 5 := Fin.ext hs
    exact h5
  · obtain rfl : s = 6 := Fin.ext hs
    exact h6
  · obtain rfl : s = 7 := Fin.ext hs
    exact h7

end Points

end Cert.Proof

end
-- ==== Proof.Root.lean ====
/- What the kernel computes for one point of its block from the sums over the near points: their covariance over its trace,
   the least root of its characteristic polynomial, and the longest column of the matrix that projects on the root's
   eigenvectors. -/
module

public import proofs.«01_k».proof.Proof.Point

@[expose] public section

set_option maxRecDepth 16384

noncomputable section

namespace Cert.Proof

open Idealize.ShloMosaic Idealize.SL.Sem Cert.KernelIdeal Cert.KernelIdeal.Gen

/-! ## One Newton step on a block -/

/-- A step from `l`, not clipped. -/
def rawV (t m d l : FVec Ideal S8x512 .f32) : FVec Ideal S8x512 .f32 :=
  subf l (divf (addf (mulf (subf (mulf (subf t l) l) m) l) d)
    (minimumf (subf (mulf (subf (mulf (broadcast S8x512 (Scalar.ofBits .f32 0x40000000#32)) t)
      (mulf (broadcast S8x512 (Scalar.ofBits .f32 0x40400000#32)) l)) l) m) (broadcast S8x512 (Scalar.ofBits .f32 0x8DA24260#32))))

def clipV (l : FVec Ideal S8x512 .f32) : FVec Ideal S8x512 .f32 :=
  minimumf (broadcast S8x512 (Scalar.ofBits .f32 0x3EAAAB8A#32)) (maximumf (broadcast S8x512 (Scalar.ofBits .f32 0x00000000#32)) l)

def stepV (t m d l : FVec Ideal S8x512 .f32) : FVec Ideal S8x512 .f32 := clipV (rawV t m d l)

theorem rawV_apply (t m d l : FVec Ideal S8x512 .f32) (s : Fin 8) (i : Fin 512) :
    rawV t m d l (ix2 s i) = raw (t (ix2 s i)) (m (ix2 s i)) (d (ix2 s i)) (l (ix2 s i)) := by
  pointwise [rawV]
  rfl

theorem clipV_apply (l : FVec Ideal S8x512 .f32) (s : Fin 8) (i : Fin 512) :
    clipV l (ix2 s i) = min cCap (max 0 (l (ix2 s i) : EReal)) := by
  pointwise [clipV]

theorem stepV_apply (t m d l : FVec Ideal S8x512 .f32) (s : Fin 8) (i : Fin 512) :
    stepV t m d l (ix2 s i) = newt (t (ix2 s i)) (m (ix2 s i)) (d (ix2 s i)) (l (ix2 s i)) := by
  unfold stepV
  rw [clipV_apply, rawV_apply]
  rfl

section Points

variable (c : Dev nD) (arg1 : Memref sig .tc .vmem S8x3x512 .f32) (harg1 : arg1.IsWhole)
  (arg2 : Memref sig .tc .vmem S8x3x512x1 .f32) (harg2 : arg2.IsWhole)
  (x0 : Vec Ideal S8x3x512 .f32) (x1 : Vec Ideal S8x3x512x1 .f32) (s : Fin 8) (i : Fin 512)

/-! ## The matrix -/

theorem r67_apply : kernelRun0_A.sl.r_67 c arg1 harg1 arg2 harg2 x0 x1 (ix2 s i) = (kcov x0 x1 s i).norm.a := by
  unfold kernelRun0_A.sl.r_67
  pointwise [k0_pay95, k0_pay91, k0_pay92, k0_pay93, k0_pay94]
  simp only [r51_apply, r52_apply, r53_apply, r54_apply, r55_apply, r56_apply, r60_apply, r61_apply, r62_apply, r63_apply, r64_apply, r65_apply, r66_apply]
  exact mul_div_one (max_cTiny_ne _)

theorem r68_apply : kernelRun0_A.sl.r_68 c arg1 harg1 arg2 harg2 x0 x1 (ix2 s i) = (kcov x0 x1 s i).norm.b := by
  unfold kernelRun0_A.sl.r_68
  pointwise [k0_pay96, k0_pay91, k0_pay92, k0_pay93, k0_pay94]
  simp only [r51_apply, r52_apply, r53_apply, r54_apply, r55_apply, r56_apply, r60_apply, r61_apply, r62_apply, r63_apply, r64_apply, r65_apply, r66_apply]
  exact mul_div_one (max_cTiny_ne _)

theorem r69_apply : kernelRun0_A.sl.r_69 c arg1 harg1 arg2 harg2 x0 x1 (ix2 s i) = (kcov x0 x1 s i).norm.c := by
  unfold kernelRun0_A.sl.r_69
  pointwise [k0_pay97, k0_pay91, k0_pay92, k0_pay93, k0_pay94]
  simp only [r51_apply, r52_apply, r53_apply, r54_apply, r55_apply, r56_apply, r60_apply, r61_apply, r62_apply, r63_apply, r64_apply, r65_apply, r66_apply]
  exact mul_div_one (max_cTiny_ne _)

theorem r70_apply : kernelRun0_A.sl.r_70 c arg1 harg1 arg2 harg2 x0 x1 (ix2 s i) = (kcov x0 x1 s i).norm.d := by
  unfold kernelRun0_A.sl.r_70
  pointwise [k0_pay98, k0_pay91, k0_pay92, k0_pay93, k0_pay94]
  simp only [r51_apply, r52_apply, r53_apply, r54_apply, r55_apply, r56_apply, r60_apply, r61_apply, r62_apply, r63_apply, r64_apply, r65_apply, r66_apply]
  exact mul_div_one (max_cTiny_ne _)

theorem r71_apply : kernelRun0_A.sl.r_71 c arg1 harg1 arg2 harg2 x0 x1 (ix2 s i) = (kcov x0 x1 s i).norm.e := by
  unfold kernelRun0_A.sl.r_71
  pointwise [k0_pay99, k0_pay91, k0_pay92, k0_pay93, k0_pay94]
  simp only [r51_apply, r52_apply, r53_apply, r54_apply, r55_apply, r56_apply, r60_apply, r61_apply, r62_apply, r63_apply, r64_apply, r65_apply, r66_apply]
  exact mul_div_one (max_cTiny_ne _)

theorem r72_apply : kernelRun0_A.sl.r_72 c arg1 harg1 arg2 harg2 x0 x1 (ix2 s i) = (kcov x0 x1 s i).norm.f := by
  unfold kernelRun0_A.sl.r_72
  pointwise [k0_pay100, k0_pay91, k0_pay92, k0_pay93, k0_pay94]
  simp only [r51_apply, r52_apply, r53_apply, r54_apply, r55_apply, r56_apply, r60_apply, r61_apply, r62_apply, r63_apply, r64_apply, r65_apply, r66_apply]
  exact mul_div_one (max_cTiny_ne _)

theorem r73_apply : kernelRun0_A.sl.r_73 c arg1 harg1 arg2 harg2 x0 x1 (ix2 s i) = (kcov x0 x1 s i).norm.tr := by
  have ha := r67_apply c arg1 harg1 arg2 harg2 x0 x1 s i
  have hd := r70_apply c arg1 harg1 arg2 harg2 x0 x1 s i
  have hf := r72_apply c arg1 harg1 arg2 harg2 x0 x1 s i
  unfold Sym.tr
  rw [← ha, ← hd, ← hf]
  rfl

theorem r76_apply : kernelRun0_A.sl.r_76 c arg1 harg1 arg2 harg2 x0 x1 (ix2 s i) = (kcov x0 x1 s i).norm.minors := by
  have h74 : (kernelRun0_A.sl.r_74 c arg1 harg1 arg2 harg2 x0 x1) = mulf (kernelRun0_A.sl.r_67 c arg1 harg1 arg2 harg2 x0 x1) (kernelRun0_A.sl.r_70 c arg1 harg1 arg2 harg2 x0 x1) := rfl
  have h75 : (kernelRun0_A.sl.r_75 c arg1 harg1 arg2 harg2 x0 x1) = mulf (kernelRun0_A.sl.r_68 c arg1 harg1 arg2 harg2 x0 x1) (kernelRun0_A.sl.r_68 c arg1 harg1 arg2 harg2 x0 x1) := rfl
  unfold kernelRun0_A.sl.r_76
  rw [h74, h75]
  pointwise [k0_pay104]
  simp only [r67_apply, r68_apply, r69_apply, r70_apply, r71_apply, r72_apply]
  rfl

theorem r77_apply : kernelRun0_A.sl.r_77 c arg1 harg1 arg2 harg2 x0 x1 (ix2 s i) = (kcov x0 x1 s i).norm.det := by
  unfold kernelRun0_A.sl.r_77
  pointwise [k0_pay105]
  simp only [r67_apply, r68_apply, r69_apply, r70_apply, r71_apply, r72_apply]
  rfl

/-! ## The root -/

theorem r78_eq : kernelRun0_A.sl.r_78 c arg1 harg1 arg2 harg2 x0 x1 = stepV (kernelRun0_A.sl.r_73 c arg1 harg1 arg2 harg2 x0 x1) (kernelRun0_A.sl.r_76 c arg1 harg1 arg2 harg2 x0 x1) (kernelRun0_A.sl.r_77 c arg1 harg1 arg2 harg2 x0 x1) (broadcast S8x512 (Scalar.ofBits .f32 0x00000000#32)) := rfl

theorem r81_eq : kernelRun0_A.sl.r_81 c arg1 harg1 arg2 harg2 x0 x1 = rawV (kernelRun0_A.sl.r_73 c arg1 harg1 arg2 harg2 x0 x1) (kernelRun0_A.sl.r_76 c arg1 harg1 arg2 harg2 x0 x1) (kernelRun0_A.sl.r_77 c arg1 harg1 arg2 harg2 x0 x1) (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (kernelRun0_A.sl.r_78 c arg1 harg1 arg2 harg2 x0 x1))) := rfl

theorem r82_eq : kernelRun0_A.sl.r_82 c arg1 harg1 arg2 harg2 x0 x1 = (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (clipV (kernelRun0_A.sl.r_81 c arg1 harg1 arg2 harg2 x0 x1)))) := rfl

theorem r84_eq : kernelRun0_A.sl.r_84 c arg1 harg1 arg2 harg2 x0 x1 = (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (kernelRun0_A.sl.r_82 c arg1 harg1 arg2 harg2 x0 x1))) := rfl

theorem r87_eq : kernelRun0_A.sl.r_87 c arg1 harg1 arg2 harg2 x0 x1 = (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (kernelRun0_A.sl.r_84 c arg1 harg1 arg2 harg2 x0 x1)))) := rfl

theorem r88_eq : kernelRun0_A.sl.r_88 c arg1 harg1 arg2 harg2 x0 x1 = (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (kernelRun0_A.sl.r_87 c arg1 harg1 arg2 harg2 x0 x1))) := rfl

theorem r91_eq : kernelRun0_A.sl.r_91 c arg1 harg1 arg2 harg2 x0 x1 = rawV (kernelRun0_A.sl.r_73 c arg1 harg1 arg2 harg2 x0 x1) (kernelRun0_A.sl.r_76 c arg1 harg1 arg2 harg2 x0 x1) (kernelRun0_A.sl.r_77 c arg1 harg1 arg2 harg2 x0 x1) (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (kernelRun0_A.sl.r_88 c arg1 harg1 arg2 harg2 x0 x1))) := rfl

theorem r92_eq : kernelRun0_A.sl.r_92 c arg1 harg1 arg2 harg2 x0 x1 = (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (clipV (kernelRun0_A.sl.r_91 c arg1 harg1 arg2 harg2 x0 x1)))) := rfl

theorem r94_eq : kernelRun0_A.sl.r_94 c arg1 harg1 arg2 harg2 x0 x1 = (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (stepV (kernelRun0_A.sl.r_73 c arg1 harg1 arg2 harg2 x0 x1) (kernelRun0_A.sl.r_76 c arg1 harg1 arg2 harg2 x0 x1) (kernelRun0_A.sl.r_77 c arg1 harg1 arg2 harg2 x0 x1) (kernelRun0_A.sl.r_92 c arg1 harg1 arg2 harg2 x0 x1))) := rfl

theorem r94_apply : kernelRun0_A.sl.r_94 c arg1 harg1 arg2 harg2 x0 x1 (ix2 s i) = (kcov x0 x1 s i).norm.lam := by
  rw [r94_eq, r92_eq, r91_eq, r88_eq, r87_eq, r84_eq, r82_eq, r81_eq, r78_eq]
  simp only [stepV_apply, clipV_apply, rawV_apply, r73_apply, r76_apply, r77_apply]
  rw [show (broadcast S8x512 (Scalar.ofBits (F := Ideal) .f32 0x00000000#32)) (ix2 s i) = (0 : EReal) by pointwise]
  rfl

end Points

end Cert.Proof

end
-- ==== Proof.Column.lean ====
/- The longest column of the projecting matrix at one point of the kernel's block, and what the kernel sums over a patch's
   points from it. -/
module

public import proofs.«01_k».proof.Proof.Root

@[expose] public section

set_option maxRecDepth 16384

noncomputable section

namespace Cert.Proof

open Idealize.ShloMosaic Idealize.SL.Sem Cert.KernelIdeal Cert.KernelIdeal.Gen

/-- Two nested choices as one. -/
theorem pick_eq {p q r : Prop} [Decidable p] [Decidable q] [Decidable r] [Decidable (p ∧ q)] [Decidable r] (x y z : EReal) :
    Scalar.select (IntOp.andi (BitVec.ofBool (decide p)) (BitVec.ofBool (decide q))) x
        (Scalar.select (IntOp.andi (IntOp.xori (IntOp.andi (BitVec.ofBool (decide p)) (BitVec.ofBool (decide q))) 1#1)
          (BitVec.ofBool (decide r))) y z)
      = if p ∧ q then x else if r then y else z := by
  by_cases hp : p <;> by_cases hq : q <;> by_cases hr : r <;> simp [hp, hq, hr, IntOp.andi, IntOp.xori, Scalar.select]

section Points

variable (c : Dev nD) (arg1 : Memref sig .tc .vmem S8x3x512 .f32) (harg1 : arg1.IsWhole)
  (arg2 : Memref sig .tc .vmem S8x3x512x1 .f32) (harg2 : arg2.IsWhole)
  (x0 : Vec Ideal S8x3x512 .f32) (x1 : Vec Ideal S8x3x512x1 .f32) (s : Fin 8) (i : Fin 512)

theorem r95_apply : kernelRun0_A.sl.r_95 c arg1 harg1 arg2 harg2 x0 x1 (ix2 s i)
    = (kcov x0 x1 s i).norm.tr - (kcov x0 x1 s i).norm.lam := by
  have h : (kernelRun0_A.sl.r_95 c arg1 harg1 arg2 harg2 x0 x1) = subf (kernelRun0_A.sl.r_73 c arg1 harg1 arg2 harg2 x0 x1) (kernelRun0_A.sl.r_94 c arg1 harg1 arg2 harg2 x0 x1) := rfl
  rw [h]
  pointwise
  rw [r73_apply, r94_apply]

theorem r96_apply : kernelRun0_A.sl.r_96 c arg1 harg1 arg2 harg2 x0 x1 (ix2 s i)
    = (kcov x0 x1 s i).norm.minors - (kcov x0 x1 s i).norm.lam * ((kcov x0 x1 s i).norm.tr - (kcov x0 x1 s i).norm.lam) := by
  have h : (kernelRun0_A.sl.r_96 c arg1 harg1 arg2 harg2 x0 x1) = subf (kernelRun0_A.sl.r_76 c arg1 harg1 arg2 harg2 x0 x1) (mulf (kernelRun0_A.sl.r_94 c arg1 harg1 arg2 harg2 x0 x1) (kernelRun0_A.sl.r_95 c arg1 harg1 arg2 harg2 x0 x1)) := rfl
  rw [h]
  pointwise
  rw [r76_apply, r94_apply, r95_apply]

theorem r101_apply : kernelRun0_A.sl.r_101 c arg1 harg1 arg2 harg2 x0 x1 (ix2 s i) = (kcov x0 x1 s i).norm.proj.c := by
  unfold kernelRun0_A.sl.r_101 kernelRun0_A.sl.r_99 kernelRun0_A.sl.r_100
  pointwise [k0_pay133, k0_pay127, k0_pay128, k0_pay129, k0_pay130, k0_pay131, k0_pay132, k0_pay133, k0_pay134, k0_pay135, k0_pay136, k0_pay137, k0_pay138, k0_pay139, k0_pay140]
  simp only [r67_apply, r68_apply, r69_apply, r70_apply, r71_apply, r72_apply, r95_apply, r96_apply]
  rfl

theorem r102_apply : kernelRun0_A.sl.r_102 c arg1 harg1 arg2 harg2 x0 x1 (ix2 s i) = IntOp.andi (BitVec.ofBool (decide ((kcov x0 x1 s i).norm.proj.len2 ≤ (kcov x0 x1 s i).norm.proj.len1)))
      (BitVec.ofBool (decide ((kcov x0 x1 s i).norm.proj.len3 ≤ (kcov x0 x1 s i).norm.proj.len1))) := by
  unfold kernelRun0_A.sl.r_102 kernelRun0_A.sl.r_97 kernelRun0_A.sl.r_98 kernelRun0_A.sl.r_99 kernelRun0_A.sl.r_100
  pointwise [k0_pay139, k0_pay127, k0_pay128, k0_pay129, k0_pay130, k0_pay131, k0_pay132, k0_pay133, k0_pay134, k0_pay135, k0_pay136, k0_pay137, k0_pay138, k0_pay139, k0_pay140]
  simp only [r67_apply, r68_apply, r69_apply, r70_apply, r71_apply, r72_apply, r95_apply, r96_apply]
  rfl

theorem r103_apply : kernelRun0_A.sl.r_103 c arg1 harg1 arg2 harg2 x0 x1 (ix2 s i) = (kcov x0 x1 s i).norm.proj.col 0 := by
  unfold kernelRun0_A.sl.r_103 kernelRun0_A.sl.r_97 kernelRun0_A.sl.r_98 kernelRun0_A.sl.r_99 kernelRun0_A.sl.r_100
  pointwise [k0_pay141, k0_pay127, k0_pay128, k0_pay129, k0_pay130, k0_pay131, k0_pay132, k0_pay133, k0_pay134, k0_pay135, k0_pay136, k0_pay137, k0_pay138, k0_pay139, k0_pay140]
  simp only [r67_apply, r68_apply, r69_apply, r70_apply, r71_apply, r72_apply, r95_apply, r96_apply]
  exact pick_eq _ _ _

theorem r104_apply : kernelRun0_A.sl.r_104 c arg1 harg1 arg2 harg2 x0 x1 (ix2 s i) = (kcov x0 x1 s i).norm.proj.col 1 := by
  unfold kernelRun0_A.sl.r_104 kernelRun0_A.sl.r_97 kernelRun0_A.sl.r_98 kernelRun0_A.sl.r_99 kernelRun0_A.sl.r_100
  pointwise [k0_pay142, k0_pay127, k0_pay128, k0_pay129, k0_pay130, k0_pay131, k0_pay132, k0_pay133, k0_pay134, k0_pay135, k0_pay136, k0_pay137, k0_pay138, k0_pay139, k0_pay140]
  simp only [r67_apply, r68_apply, r69_apply, r70_apply, r71_apply, r72_apply, r95_apply, r96_apply]
  exact pick_eq _ _ _

theorem r105_apply : kernelRun0_A.sl.r_105 c arg1 harg1 arg2 harg2 x0 x1 (ix2 s i) = Scalar.select (IntOp.andi (IntOp.xori
        (IntOp.andi (BitVec.ofBool (decide ((kcov x0 x1 s i).norm.proj.len2 ≤ (kcov x0 x1 s i).norm.proj.len1)))
          (BitVec.ofBool (decide ((kcov x0 x1 s i).norm.proj.len3 ≤ (kcov x0 x1 s i).norm.proj.len1)))) 1#1)
        (BitVec.ofBool (decide ((kcov x0 x1 s i).norm.proj.len3 ≤ (kcov x0 x1 s i).norm.proj.len2))))
      (kcov x0 x1 s i).norm.proj.e (kcov x0 x1 s i).norm.proj.f := by
  unfold kernelRun0_A.sl.r_105 kernelRun0_A.sl.r_97 kernelRun0_A.sl.r_98 kernelRun0_A.sl.r_99 kernelRun0_A.sl.r_100
  pointwise [k0_pay143, k0_pay127, k0_pay128, k0_pay129, k0_pay130, k0_pay131, k0_pay132, k0_pay133, k0_pay134, k0_pay135, k0_pay136, k0_pay137, k0_pay138, k0_pay139, k0_pay140]
  simp only [r67_apply, r68_apply, r69_apply, r70_apply, r71_apply, r72_apply, r95_apply, r96_apply]
  rfl

theorem third_apply : Scalar.select (kernelRun0_A.sl.r_102 c arg1 harg1 arg2 harg2 x0 x1 (ix2 s i)) (kernelRun0_A.sl.r_101 c arg1 harg1 arg2 harg2 x0 x1 (ix2 s i)) (kernelRun0_A.sl.r_105 c arg1 harg1 arg2 harg2 x0 x1 (ix2 s i))
    = (kcov x0 x1 s i).norm.proj.col 2 := by
  rw [r101_apply, r102_apply, r105_apply]
  exact pick_eq _ _ _

/-! ## The sums over a patch -/

theorem r106_apply (hr : ∀ i, (kcov x0 x1 s i).Real) : kernelRun0_A.sl.r_106 c arg1 harg1 arg2 harg2 x0 x1 (ix2 s 0)
    = spread (fun i => (kcov x0 x1 s i).norm.nrm 0) + spread (fun i => (kcov x0 x1 s i).norm.nrm 1)
      + spread (fun i => (kcov x0 x1 s i).norm.nrm 2) := by
  unfold kernelRun0_A.sl.r_106
  pointwise [k0_pay144]
  simp only [r103_apply, r104_apply, third_apply]
  exact spread_three (fun i => (hr i).norm.nrm 0) (fun i => (hr i).norm.nrm 1) (fun i => (hr i).norm.nrm 2)

theorem r107_apply : kernelRun0_A.sl.r_107 c arg1 harg1 arg2 harg2 x0 x1 (ix2 s 0) = ∑ i, (kcov x0 x1 s i).norm.lam := by
  unfold kernelRun0_A.sl.r_107
  pointwise [k0_pay145]
  simp only [r94_apply]

end Points

end Cert.Proof

end
-- ==== Proof.Spec.lean ====
/- What both programs compute from a cloud of real points: for each of a patch's points the covariance of its sixteen
   nearest, the least root and the absolute normal of the covariance over its trace, and the loss. -/
module

public import proofs.«01_k».proof.Proof.Rank
public import proofs.«01_k».proof.Proof.Scalar

@[expose] public section

noncomputable section

namespace Cert.Proof

open Idealize.ShloMosaic

section Patch

variable (X : Fin 512 → Fin 3 → ℝ)

/-- The squared distance of point `j` to point `i`. -/
def dist2 (i j : Fin 512) : ℝ :=
  (X j 0 - X i 0) * (X j 0 - X i 0) + (X j 1 - X i 1) * (X j 1 - X i 1) + (X j 2 - X i 2) * (X j 2 - X i 2)

/-- One at the sixteen points nearest to `i`, zero at the others. -/
def near (i j : Fin 512) : ℝ := if rank (dist2 X i) j < 16 then 1 else 0

/-- An entry of the covariance about point `i`. -/
def covar (i : Fin 512) (a b : Fin 3) : ℝ := ∑ j, near X i j * ((X j a - X i a) * (X j b - X i b))

def covSym (i : Fin 512) : Sym :=
  ⟨covar X i 0 0, covar X i 0 1, covar X i 0 2, covar X i 1 1, covar X i 1 2, covar X i 2 2⟩

theorem covSym_real (i : Fin 512) : (covSym X i).Real := ⟨⟨_, rfl⟩, ⟨_, rfl⟩, ⟨_, rfl⟩, ⟨_, rfl⟩, ⟨_, rfl⟩, ⟨_, rfl⟩⟩

/-- The least root at point `i` and the absolute normal's entry `k`. -/
def rootAt (i : Fin 512) : EReal := (covSym X i).norm.lam
def normalAt (k : Fin 3) (i : Fin 512) : EReal := (covSym X i).norm.nrm k

theorem dist2_self (i : Fin 512) : dist2 X i i = 0 := by simp [dist2]

theorem dist2_nonneg (i j : Fin 512) : 0 ≤ dist2 X i j :=
  add_nonneg (add_nonneg (mul_self_nonneg _) (mul_self_nonneg _)) (mul_self_nonneg _)

end Patch

/-- The loss of thirty-two patches. -/
def loss (X : Fin 32 → Fin 512 → Fin 3 → ℝ) : EReal :=
  Ideal.div (∑ p, (spread (normalAt (X p) 0) + spread (normalAt (X p) 1) + spread (normalAt (X p) 2)))
      (Ideal.ofBits .f32 0x47400000#32)
    + Ideal.div (∑ p, ∑ i, rootAt (X p) i) (Ideal.ofBits .f32 0x46800000#32)

/-- The sums of products about a point from the sums of products. -/
theorem moments {n : ℕ} (w a b : Fin n → ℝ) (x y : ℝ) :
    ∑ j, w j * ((a j - x) * (b j - y))
      = ∑ j, a j * b j * w j - x * ∑ j, b j * w j - y * ∑ j, a j * w j + (∑ j, 1 * w j) * x * y := by
  simp only [Finset.mul_sum, Finset.sum_mul, ← Finset.sum_sub_distrib, ← Finset.sum_add_distrib]
  exact Finset.sum_congr rfl fun j _ => by ring

end Cert.Proof

end
-- ==== Proof.Cov.lean ====
/- The kernel's covariance sums on a block of real points are the covariance of the sixteen nearest. -/
module

public import proofs.«01_k».proof.Proof.Column
public import proofs.«01_k».proof.Proof.Spec

@[expose] public section

set_option maxRecDepth 16384

noncomputable section

namespace Cert.Proof

open Idealize.ShloMosaic Idealize.SL.Sem Cert.KernelIdeal Cert.KernelIdeal.Gen

variable {x0 : Vec Ideal S8x3x512 .f32} {x1 : Vec Ideal S8x3x512x1 .f32} {s : Fin 8} {X : Fin 512 → Fin 3 → ℝ}

theorem gap_eq (h0 : ∀ k j, x0 (ix3 s k j) = ((X j k : ℝ) : EReal)) (h1 : ∀ k j, x1 (ix4 s k j 0) = ((X j k : ℝ) : EReal))
    (j i : Fin 512) : gap x0 x1 s j i = ((dist2 X i j : ℝ) : EReal) := by
  unfold gap dist2
  rw [h1, h1, h1, h0, h0, h0]
  push_cast
  rfl

theorem wt_eq (h0 : ∀ k j, x0 (ix3 s k j) = ((X j k : ℝ) : EReal)) (h1 : ∀ k j, x1 (ix4 s k j 0) = ((X j k : ℝ) : EReal))
    (hD : ∀ i, Function.Injective (dist2 X i)) (j i : Fin 512) : wt x0 x1 s j i = ((near X i j : ℝ) : EReal) := by
  have h := weight_eq (hD i) (dist2_nonneg X i) ⟨i, dist2_self X i⟩ j
  unfold near
  rw [← h]
  unfold wt sel startFrom
  simp only [gap_eq h0 h1]

theorem kcov_eq (h0 : ∀ k j, x0 (ix3 s k j) = ((X j k : ℝ) : EReal)) (h1 : ∀ k j, x1 (ix4 s k j 0) = ((X j k : ℝ) : EReal))
    (hD : ∀ i, Function.Injective (dist2 X i)) (i : Fin 512) : kcov x0 x1 s i = covSym X i := by
  have hm : ∀ k (f : Fin 512 → ℝ), (∀ j, row x0 s k j = ((f j : ℝ) : EReal)) →
      mom x0 x1 s k i = ((∑ j, f j * near X i j : ℝ) : EReal) := by
    intro k f hf
    unfold mom
    simp only [hf, wt_eq h0 h1 hD, ← EReal.coe_mul, coe_sum]
  have e0 := hm 0 (fun j => X j 0) fun j => h0 0 j
  have e1 := hm 1 (fun j => X j 1) fun j => h0 1 j
  have e2 := hm 2 (fun j => X j 2) fun j => h0 2 j
  have e3 := hm 3 (fun j => X j 0 * X j 0) fun j => by simp [row, pt, h0]
  have e4 := hm 4 (fun j => X j 1 * X j 1) fun j => by simp [row, pt, h0]
  have e5 := hm 5 (fun j => X j 2 * X j 2) fun j => by simp [row, pt, h0]
  have e6 := hm 6 (fun j => X j 0 * X j 1) fun j => by simp [row, pt, h0]
  have e7 := hm 7 (fun j => X j 0 * X j 2) fun j => by simp [row, pt, h0]
  have e8 := hm 8 (fun j => X j 1 * X j 2) fun j => by simp [row, pt, h0]
  have e9 := hm 9 (fun _ => 1) fun j => by simp [row]
  have p : ∀ k, pt x0 s k i = ((X i k : ℝ) : EReal) := fun k => h0 k i
  unfold kcov covSym covar
  simp only [e0, e1, e2, e3, e4, e5, e6, e7, e8, e9, p, cTwo_eq, moments, ← EReal.coe_mul, ← EReal.coe_sub, ← EReal.coe_add]
  ext1 <;> dsimp only <;> congr 1 <;> ring

end Cert.Proof

end
-- ==== Proof.KernelRun.lean ====
/- The kernel's run on a real cloud whose distances differ: the result is the loss. -/
module

public import proofs.«01_k».proof.Proof.Cov
public import Idealize.ShloMosaic.Lib.Claim
public import Idealize.ShloMosaic.Lib.Pipeline.ValueKit
public import Idealize.ShloMosaic.Lib.StableHlo.ReadAt

@[expose] public section

set_option maxRecDepth 16384

noncomputable section

namespace Cert.Proof

open Idealize.ShloMosaic Idealize.SL.Sem Cert.KernelIdeal Cert.KernelIdeal.Gen

/-- Coordinate `k` of point `i` of patch `p` of the cloud. -/
def cloud (a : Vec Ideal S2x8192x3 .f32) (p : Fin 32) (i : Fin 512) (k : Fin 3) : EReal :=
  a (ix3 ⟨p.val / 16, by omega⟩ ⟨p.val % 16 * 512 + i.val, by omega⟩ k)

theorem idx0 : ∀ t : Fin cfg0.N, win0_0.index t = ![t.val, 0, 0] := by decide +kernel
theorem idx1 : ∀ t : Fin cfg0.N, win0_1.index t = ![t.val, 0, 0, 0] := by decide +kernel
theorem idx2 : ∀ t : Fin cfg0.N, win0_2.index t = ![t.val, 0, 0] := by decide +kernel

variable (m : (ℓ : Loc nD τ sig) → Buf (Elt Ideal) ℓ) (c : Dev nD)

theorem point_lt (t : Fin cfg0.N) : t.val < 4 := t.isLt

/-- Patch `s` of the block that point `t` reads. -/
def patchOf (t : Fin cfg0.N) (s : Fin 8) : Fin 32 := ⟨t.val * 8 + s.val, by have := point_lt t; omega⟩

theorem v1_eq (p : Fin 32) (k : Fin 3) (i : Fin 512) :
    V m c main_v1 (ix3 p k i) = cloud (m (c.tc.loc main_arg0)) p i k := by
  unfold V V0 hostOps0
  after_reads_at
  rfl

theorem v2_eq (p : Fin 32) (k : Fin 3) (i : Fin 512) :
    V m c main_v2 (ix4 p k i 0) = cloud (m (c.tc.loc main_arg0)) p i k := by
  unfold V V0 hostOps0
  after_reads_at
  rfl

theorem iblk0_eq (t : Fin cfg0.N) (s : Fin 8) (k : Fin 3) (i : Fin 512) :
    iblk m c 0 t (ix3 s k i) = cloud (m (c.tc.loc main_arg0)) (patchOf t s) i k := by
  rw [← v1_eq]
  blk_simp [iblk]
  blk_ext [idx0 t, patchOf]

theorem iblk1_eq (t : Fin cfg0.N) (s : Fin 8) (k : Fin 3) (i : Fin 512) :
    iblk m c 1 t (ix4 s k i 0) = cloud (m (c.tc.loc main_arg0)) (patchOf t s) i k := by
  rw [← v2_eq]
  blk_simp [iblk]
  blk_ext [idx1 t, patchOf]

theorem out_eq (c : Dev nD) (i : grid0.Coords) (arg1 : Memref sig .tc .vmem S8x3x512 .f32) (harg1 : arg1.IsWhole)
    (arg2 : Memref sig .tc .vmem S8x3x512x1 .f32) (harg2 : arg2.IsWhole) (arg3 : Memref sig .tc .vmem S8x1x128 .f32)
    (harg3 : arg3.IsWhole) (x0 : Vec Ideal S8x3x512 .f32) (x1 : Vec Ideal S8x3x512x1 .f32) :
    out0_A_2 c i arg1 harg1 arg2 harg2 arg3 harg3 x0 x1
      = k0_pay1 (kernelRun0_A.sl.r_106 c arg1 harg1 arg2 harg2 x0 x1)
                (kernelRun0_A.sl.r_107 c arg1 harg1 arg2 harg2 x0 x1) kernelRun0_A.sl.v1059 k0_pay146 := by
  unfold out0_A_2
  rw [View.read_writes_junk_eq_canon]
  unfold kernelRun0_A
  exact View.canon_cons_unit_lit _ _ _ (by decide)

theorem pay1_apply (a b : FVec Ideal S8x1 .f32) (s : Fin 8) (l : Fin 128) :
    k0_pay1 a b kernelRun0_A.sl.v1059 k0_pay146 (ix3 s 0 l)
      = if l.val = 0 then a (ix2 s 0) else if l.val = 1 then b (ix2 s 0) else 0 := by
  unfold kernelRun0_A.sl.v1059
  pointwise [k0_pay1, k0_pay146]
  have e0 : BitVec.ofNat 32 l.val = 0#32 ↔ l.val = 0 := by
    rw [← BitVec.toNat_inj]
    simp only [BitVec.toNat_ofNat]
    omega
  have e1 : BitVec.ofNat 32 l.val = 1#32 ↔ l.val = 1 := by
    rw [← BitVec.toNat_inj]
    simp only [BitVec.toNat_ofNat]
    omega
  by_cases h0 : l.val = 0
  · rw [if_pos h0]
    simp [Scalar.select, IntOp.cmpi, h0]
  · rw [if_neg h0]
    by_cases h1 : l.val = 1
    · rw [if_pos h1]
      simp [Scalar.select, IntOp.cmpi, h1]
    · rw [if_neg h1]
      simp [Scalar.select, IntOp.cmpi, beq_eq_false_iff_ne.2 (mt e0.1 h0), beq_eq_false_iff_ne.2 (mt e1.1 h1)]

/-! ## The result array and the result -/

/-- What the kernel's array holds: a patch's spread in the first lane and its sum of roots in the second. -/
def lanes (X : Fin 32 → Fin 512 → Fin 3 → ℝ) (p : Fin 32) (l : Fin 128) : EReal :=
  if l.val = 0 then spread (normalAt (X p) 0) + spread (normalAt (X p) 1) + spread (normalAt (X p) 2)
  else if l.val = 1 then ∑ i, rootAt (X p) i else 0

section Result

variable {m c} {X : Fin 32 → Fin 512 → Fin 3 → ℝ} (hX : ∀ p i k, cloud (m (c.tc.loc main_arg0)) p i k = ((X p i k : ℝ) : EReal))
  (hD : ∀ p i, Function.Injective (dist2 (X p) i))

include hX hD

theorem outs_apply (t : Fin cfg0.N) (s : Fin 8) (l : Fin 128) :
    outsAt0 m c t (ix3 s 0 l) = lanes X (patchOf t s) l := by
  have hk := fun i => kcov_eq (X := X (patchOf t s)) (fun k j => (iblk0_eq m c t s k j).trans (hX _ _ _))
    (fun k j => (iblk1_eq m c t s k j).trans (hX _ _ _)) (hD _) i
  have hr : ∀ i, (kcov (iblk m c 0 t) (iblk m c 1 t) s i).Real := fun i => by rw [hk]; exact covSym_real _ _
  unfold outsAt0
  rw [out_eq, pay1_apply, r106_apply _ _ _ _ _ _ _ _ hr, r107_apply]
  simp only [hk]
  rfl

theorem arr_eq : (dats m 0 c).arrAt 2 (cfgs 0).N = (fun j => lanes X (j 0) (j 2) : Vec Ideal S32x1x128 .f32) := by
  refine (dats m 0 c).arrAt_eq_of_covers 2 _ (by decide +kernel) fun t hf y => ?_
  idx_vars y
  rw [after0_2, Subsingleton.elim y1 0]
  refine (outs_apply hX hD t y0 y2).trans ?_
  congr 1 <;> (apply Fin.ext; blk_simp [idx2 t, patchOf])

theorem after_eq : Pipeline.afterTail₀ cfgs (dats m) 0 (V0 m) [hostOps1] c main_v14 = fun _ => loss X := by
  unfold Pipeline.afterTail₀
  have h3 : Pipeline.withArrays (cfgs 0).spec c (V0 m c) (fun w => (dats m 0 c).arrAt w (cfgs 0).N) (Proc.devRef .tc main_v3)
      = (fun j => lanes X (j 0) (j 2) : Vec Ideal S32x1x128 .f32) :=
    (Pipeline.withArrays_arr (cfgs 0).spec (by decide) c _ _ 2).trans (arr_eq hX hD)
  generalize Pipeline.withArrays (cfgs 0).spec c (V0 m c) (fun w => (dats m 0 c).arrAt w (cfgs 0).N) = W at h3 ⊢
  funext j
  simp only [List.flatten_cons, List.flatten_nil, List.append_nil]
  unfold hostOps1
  after_reads_at
  rw [h3]
  rfl

end Result

theorem kernel_run (g : Dev nD → PrngReg) {X : Dev nD → Fin 32 → Fin 512 → Fin 3 → ℝ}
    (hX : ∀ (c : Dev nD) p i k, cloud (m (c.tc.loc main_arg0)) p i k = ((X c p i k : ℝ) : EReal))
    (hD : ∀ c p i, Function.Injective (dist2 (X c p) i)) :
    θ_run defs (onTc (τ := τ) (main (F := Ideal))) ⟨m, fun _ => 0, g⟩ (fun r => ∀ c : Dev nD,
      r.2.mem ((c.tc : Thread nD τ).loc main_v14) = (fun _ => loss (X c) : Vec Ideal S_ .f32)) := by
  run_from run_main m g
  exact after_eq (hX c) (hD c)

end Cert.Proof

end
-- ==== Proof.Apart.lean ====
/- What the precondition says of the cloud: every coordinate is a real number, and no two points of a patch are equally
   far from a third. -/
module

public import proofs.«01_k».proof.Proof.Frames
public import proofs.«01_k».proof.Proof.KernelRun

@[expose] public section

set_option maxRecDepth 16384

noncomputable section

namespace Cert.Proof

open Idealize.ShloMosaic Cert.Pre_finite_and_apart

theorem real_of_bit {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => exact ⟨r, rfl⟩

theorem coords_real {a : FVec Ideal S2x8192x3 .f32} (h : (fn (F := Ideal) a).1 = fun _ => 1#1) (b : Fin 2) (n : Fin 8192)
    (k : Fin 3) : IsReal (a (ix3 b n k)) := by
  have e := congrFun h (ix3 b n k)
  unfold fn fn_part1 at e
  simp only [] at e
  pointwise at e
  exact real_of_bit e

theorem apart {a : FVec Ideal S2x8192x3 .f32} (h : (fn (F := Ideal) a).2 = fun _ => 1#1) {p : Fin 32}
    {X : Fin 512 → Fin 3 → ℝ} (hX : ∀ i k, cloud a p i k = ((X i k : ℝ) : EReal)) (i : Fin 512) :
    Function.Injective (dist2 X i) := by
  intro j l hjl
  have e := congrFun h (ix4 p i j l)
  unfold fn fn_part1 at e
  simp only [] at e
  pointwise at e
  have hc : ∀ (l : Fin 512) (x : Fin 3), a (ix3 ⟨p.val / 16, by omega⟩ ⟨p.val % 16 * 512 + l.val, by omega⟩ x)
      = ((X l x : ℝ) : EReal) := hX
  have hd : ∀ l : Fin 512, ∑ x : Fin 3, ((X i x : EReal) - (X l x : EReal)) * ((X i x : EReal) - (X l x : EReal))
      = ((dist2 X i l : ℝ) : EReal) := by
    intro l
    rw [Fin.sum_univ_three]
    simp only [← EReal.coe_sub, ← EReal.coe_mul, ← EReal.coe_add]
    congr 1
    unfold dist2
    ring
  simp only [hc, hd, hjl] at e
  by_contra hne
  have hb : (BitVec.ofNat 32 j.val == BitVec.ofNat 32 l.val) = false := by
    rw [beq_eq_false_iff_ne]
    intro hb
    have := congrArg BitVec.toNat hb
    rw [BitVec.toNat_ofNat, BitVec.toNat_ofNat] at this
    exact hne (Fin.ext (by omega))
  simp [IntOp.ori, IntOp.cmpi, hb] at e

/-- The points that the precondition speaks of. -/
theorem points {a : FVec Ideal S2x8192x3 .f32} (h : (fn (F := Ideal) a).1 = fun _ => 1#1) :
    ∃ X : Fin 32 → Fin 512 → Fin 3 → ℝ, ∀ p i k, cloud a p i k = ((X p i k : ℝ) : EReal) := by
  choose f hf using coords_real h
  exact ⟨fun p i k => f ⟨p.val / 16, by omega⟩ ⟨p.val % 16 * 512 + i.val, by omega⟩ k, fun p i k => hf _ _ _⟩

end Cert.Proof

end
-- ==== Proof.Nearest.lean ====
/- The reference's sixteen nearest of a point: the distances, the positions that the top of their negatives takes, and
   the sums of products of the coordinates relative to the point. -/
module

public import proofs.«01_k».proof.Proof.Frames
public import proofs.«01_k».proof.Proof.KernelRun
public import Idealize.ShloMosaic.Lib.SortPrefix

@[expose] public section

set_option maxRecDepth 16384

noncomputable section

namespace Cert.Proof.RefSide

open Idealize.ShloMosaic Idealize.SL.Sem Cert.ReferenceIdeal Cert.ReferenceIdeal.Gen Cert.ReferenceIdeal.Value StableHlo

/-- The operations before the loop in four stretches: the distances, the nearest positions, the sums of products, and
    what follows from these sums. -/
abbrev opsA : List (HloOp τ sig (Elt Ideal)) := hostOps0.take 11
abbrev opsB : List (HloOp τ sig (Elt Ideal)) := (hostOps0.drop 11).take 10
abbrev opsC : List (HloOp τ sig (Elt Ideal)) := (hostOps0.drop 21).take 5
abbrev opsD : List (HloOp τ sig (Elt Ideal)) := hostOps0.drop 26

variable (V : Valuation τ sig (Elt Ideal))

theorem stretches : after hostOps0 V = after opsD (after opsC (after opsB (after opsA V))) := rfl

theorem v0_eq (p : Fin 32) (i : Fin 512) (k : Fin 3) :
    after opsA V (Proc.devRef .tc main_v0) (ix3 p i k) = cloud (V (Proc.devRef .tc main_arg0)) p i k := by
  simp only [opsA, hostOps0, List.take_succ_cons, List.take_zero]
  after_reads_at
  rfl

/-- Position `q` of the top's second result is the position that the sort brings to place `q`. -/
theorem topK_apply (x : FVec Ideal S32x512x512 .f32) (p : Fin 32) (i : Fin 512) (q : Fin 16) :
    (Host.topK S32x512x16 2 (FloatOps.cmpfTotal .gt) x sliceFits_S32x512x512_S32x512x16).2 (ix3 p i q)
      = BitVec.ofNat 32 (sortedFrom (fun a b => FloatOps.cmpfTotal .gt (x (ix3 p i a)) (x (ix3 p i b)) == 1#1)
          (q.castLE (by decide : 16 ≤ 512))).val := by
  have h2 : 2 < S32x512x512.rank := by decide
  have key : ∀ J : S32x512x512.Idx, J = ix3 p i (q.castLE (by decide : 16 ≤ 512)) →
      BitVec.ofNat 32 (J.along ⟨2, h2⟩ (sortedFrom (fun k k' => FloatOps.cmpfTotal .gt
          (x (J.along ⟨2, h2⟩ k)) (x (J.along ⟨2, h2⟩ k')) == 1#1) (J ⟨2, h2⟩)) ⟨2, h2⟩).val
        = BitVec.ofNat 32 (sortedFrom (fun a b => FloatOps.cmpfTotal .gt (x (ix3 p i a)) (x (ix3 p i b)) == 1#1)
            (q.castLE (by decide : 16 ≤ 512))).val := by
    intro J hJ
    have e : ∀ k : Fin 512, J.along ⟨2, h2⟩ k = ix3 p i k := by
      intro k
      subst hJ
      funext b
      match b with
      | ⟨0, _⟩ => rfl
      | ⟨1, _⟩ => rfl
      | ⟨2, _⟩ => rfl
    have f : (fun k k' : Fin 512 => FloatOps.cmpfTotal .gt (x (J.along ⟨2, h2⟩ k)) (x (J.along ⟨2, h2⟩ k')) == 1#1)
        = fun a b => FloatOps.cmpfTotal .gt (x (ix3 p i a)) (x (ix3 p i b)) == 1#1 := by
      funext a b
      rw [e, e]
    have g : (J ⟨2, h2⟩ : Fin 512) = q.castLE (by decide : 16 ≤ 512) := by subst hJ; rfl
    have l : ∀ k : Fin 512, J.along ⟨2, h2⟩ k ⟨2, h2⟩ = k := by
      intro k
      rw [e]
      rfl
    refine congrArg (fun n : Fin 512 => BitVec.ofNat 32 n.val) ((l _).trans ?_)
    exact congr (congrArg (sortedFrom (n := 512)) f) g
  unfold Host.topK Host.sort2 extractStridedSlice
  simp only [show 2 < S32x512x512.rank by decide, ↓reduceDIte, iotaInDim]
  refine key _ (funext fun b => ?_)
  match b with
  | ⟨0, _⟩ => exact Fin.ext (Nat.zero_add _)
  | ⟨1, _⟩ => exact Fin.ext (Nat.zero_add _)
  | ⟨2, _⟩ => exact Fin.ext (Nat.zero_add _)

theorem before_iff {r s : ℝ} (hr : 0 ≤ r) (hs : 0 ≤ s) :
    (FloatOps.cmpfTotal (F := Ideal) (φ := .f32) .gt (-Ideal.sqrt (r : EReal)) (-Ideal.sqrt (s : EReal)) == 1#1)
      = decide (r < s) := by
  rw [Ideal.cmpfTotal_def, Ideal.sqrt_coe, Ideal.sqrt_coe, if_neg (not_lt.mpr hr), if_neg (not_lt.mpr hs)]
  have e : (-((Real.sqrt s : ℝ) : EReal) < -((Real.sqrt r : ℝ) : EReal)) ↔ r < s := by
    rw [← EReal.coe_neg, ← EReal.coe_neg, EReal.coe_lt_coe_iff, neg_lt_neg_iff, Real.sqrt_lt_sqrt_iff hr]
  by_cases h : r < s
  · simp [Ideal.cmp, CmpDirection.ordered, e, h]
  · simp [Ideal.cmp, CmpDirection.ordered, e, h]

/-- The position that the sort by nearness brings to place `q` is the one of rank `q`. -/
theorem sorted_rank {D : Fin 512 → ℝ} (hD : Function.Injective D) (h0 : ∀ j, 0 ≤ D j) {x : Fin 512 → EReal}
    (hx : ∀ j, x j = -Ideal.sqrt (D j : EReal)) (q : Fin 16) :
    rank D (sortedFrom (fun a b => FloatOps.cmpfTotal (F := Ideal) (φ := .f32) .gt (x a) (x b) == 1#1)
      (q.castLE (by decide : 16 ≤ 512))) = q.val := by
  choose σ hσ using fun k : Fin 16 => exists_rank hD k.val (lt_trans k.isLt (by decide))
  have hB : StrictTotalBefore fun a b : Fin 512 => decide (D a < D b) :=
    { irrefl := fun a => by simp
      trans := fun a b c h h' => by simp only [decide_eq_true_eq] at *; exact h.trans h'
      total := fun a b h => by simpa using lt_or_gt_of_ne (fun e => h (hD e)) }
  have e : (fun a b : Fin 512 => FloatOps.cmpfTotal (F := Ideal) (φ := .f32) .gt (x a) (x b) == 1#1)
      = fun a b => decide (D a < D b) := by
    funext a b
    rw [hx, hx, before_iff (h0 a) (h0 b)]
  rw [e, hB.sortedFrom_eq_of_prefix (by decide) σ (fun a b h => Fin.ext (by rw [← hσ a, ← hσ b, h])) _ _ q, hσ]
  · intro a b h
    rw [decide_eq_false_iff_not, ← rank_lt_iff, hσ, hσ]
    exact not_lt.mpr h.le
  · intro a p h
    rw [decide_eq_false_iff_not, ← rank_lt_iff, hσ]
    intro h'
    exact h ⟨rank D p, h'.trans a.isLt⟩ (rank_inj hD (hσ _))

/-- The gather at an index: the operand's row at the start index, clamped into the patch. -/
theorem gather_apply (x : FVec Ideal S32x512x3 .f32) (idx : IVec S32x512x16x1 32) (p : Fin 32) (i : Fin 512) (q : Fin 16)
    (a : Fin 3) (n : Fin 512) (hn : idx (ix4 p i q 0) = BitVec.ofNat 32 n.val) :
    Host.gather gather_S32x512x3_S32x512x16x1_S32x512x16x3_3_1_0_0_1_3_113 x idx (ix4 p i q a) = x (ix3 p n a) := by
  unfold Host.gather
  congr 1
  funext b
  refine Fin.ext ?_
  set d := gather_S32x512x3_S32x512x16x1_S32x512x16x3_3_1_0_0_1_3_113 with hd
  show d.start _ idx b + d.batchCoord _ b + d.offCoord _ b = _
  have h3 : b = 0 ∨ b = 1 ∨ b = 2 := by
    match b with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => by simp [hd, gather_S32x512x3_S32x512x16x1_S32x512x16x3_3_1_0_0_1_3_113] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix4 p i q a) ⟨List.idxOf (1 : Fin 3) d.startIndexMap,
        List.idxOf_lt_length_iff.2 (List.mem_singleton.mpr rfl)⟩ = ix4 p i q 0 := by
      funext b; refine Fin.ext ?_
      match b with
      | ⟨0, _⟩ => rfl
      | ⟨1, _⟩ => rfl
      | ⟨2, _⟩ => rfl
      | ⟨3, _⟩ => rfl
    rw [hsi, hn]
    have h1 : (BitVec.ofNat 32 n.val).toInt = n.val := by
      rw [BitVec.toInt_eq_toNat_of_lt (by rw [BitVec.toNat_ofNat]; omega), BitVec.toNat_ofNat]; omega
    rw [h1]
    show min ((n.val : ℤ).toNat) 511 = n.val
    omega
  · rw [GatherDims.batchCoord_eq_zero _ _ _ (fun h => by simp [hd, gather_S32x512x3_S32x512x16x1_S32x512x16x3_3_1_0_0_1_3_113] at h)]
    unfold GatherDims.start GatherDims.offCoord
    rw [dif_neg (by decide), dif_pos (by decide)]
    simp only [Nat.zero_add]
    rfl

theorem v9_eq (p : Fin 32) (i j : Fin 512) {X : Fin 512 → Fin 3 → ℝ}
    (hX : ∀ i k, cloud (V (Proc.devRef .tc main_arg0)) p i k = ((X i k : ℝ) : EReal)) :
    after opsA V (Proc.devRef .tc main_v9) (ix3 p i j) = -Ideal.sqrt ((dist2 X i j : ℝ) : EReal) := by
  simp only [opsA, hostOps0, List.take_succ_cons, List.take_zero]
  after_reads_at
  have h : ∀ l x, V (Proc.devRef .tc main_arg0)
      (ix3 ⟨p.val / 16, by omega⟩ ⟨p.val % 16 * 512 + l.val, by omega⟩ x) = ((X l x : ℝ) : EReal) := hX
  simp only [h]
  rw [Fin.sum_univ_three]
  simp only [← EReal.coe_sub, ← EReal.coe_mul, ← EReal.coe_add]
  congr 3
  unfold dist2
  ring

theorem v15_eq (p : Fin 32) (i : Fin 512) (q : Fin 16) :
    after opsB V (Proc.devRef .tc main_v15) (ix4 p i q 0)
      = BitVec.ofNat 32 (sortedFrom (fun a b => FloatOps.cmpfTotal (F := Ideal) (φ := .f32) .gt
          (V (Proc.devRef .tc main_v9) (ix3 p i a)) (V (Proc.devRef .tc main_v9) (ix3 p i b)) == 1#1)
          (q.castLE (by decide : 16 ≤ 512))).val := by
  simp only [opsB, hostOps0, List.drop_succ_cons, List.drop_zero, List.take_succ_cons, List.take_zero]
  after_reads_at
  rw [topK_apply]
  generalize sortedFrom _ _ = n
  have h : IntOp.cmpi .slt (BitVec.ofNat 32 n.val) 0#32 = 0#1 := by
    have h1 : (BitVec.ofNat 32 n.val).toInt = n.val := by
      rw [BitVec.toInt_eq_toNat_of_lt (by rw [BitVec.toNat_ofNat]; omega), BitVec.toNat_ofNat]; omega
    simp [IntOp.cmpi, BitVec.slt, h1, not_lt.mpr (Int.natCast_nonneg n.val)]
  rw [h]
  rfl

theorem v0_keep (p : Fin 32) (i : Fin 512) (k : Fin 3) :
    after opsB V (Proc.devRef .tc main_v0) (ix3 p i k) = V (Proc.devRef .tc main_v0) (ix3 p i k) := by
  simp only [opsB, hostOps0, List.drop_succ_cons, List.drop_zero, List.take_succ_cons, List.take_zero]
  after_reads_at

theorem v20_eq (p : Fin 32) (i : Fin 512) (a b : Fin 3) {X : Fin 512 → Fin 3 → ℝ}
    (hX : ∀ i k, cloud (V (Proc.devRef .tc main_arg0)) p i k = ((X i k : ℝ) : EReal))
    (hD : Function.Injective (dist2 X i)) :
    after opsC (after opsB (after opsA V)) (Proc.devRef .tc main_v20) (ix4 p i a b) = ((covar X i a b : ℝ) : EReal) := by
  generalize hW : after opsB (after opsA V) = W
  have h0 : ∀ i k, W (Proc.devRef .tc main_v0) (ix3 p i k) = ((X i k : ℝ) : EReal) := fun i k => by
    rw [← hW, v0_keep, v0_eq, hX]
  have h15 := fun q => (congrFun (congrFun hW _) _).symm.trans (v15_eq (after opsA V) p i q)
  have hr := sorted_rank hD (dist2_nonneg X i) fun j => v9_eq V p i j hX
  simp only [opsC, hostOps0, List.drop_succ_cons, List.drop_zero, List.take_succ_cons, List.take_zero]
  after_reads_at
  simp only [fun q a => gather_apply (W (Proc.devRef .tc main_v0)) (W (Proc.devRef .tc main_v15)) p i q a _ (h15 q), h0,
    ← EReal.coe_sub, ← EReal.coe_mul, ← coe_sum]
  congr 1
  exact sum_by_rank (by decide) hD _ hr fun j => (X j a - X i a) * (X j b - X i b)

end Cert.Proof.RefSide

end
-- ==== Proof.Cofactor.lean ====
/- The characteristic polynomial and the projection of a symmetric matrix of real entries, from the shifted matrix: a Newton
   step on the shifted matrix's determinant is a step on the polynomial, and the cross products of two rows of the shifted
   matrix are the columns of the projection (Cayley–Hamilton). -/
module

public import proofs.«01_k».proof.Proof.Spec

@[expose] public section

noncomputable section

namespace Cert.Proof

open Idealize.ShloMosaic

/-- The matrix's entry at row `a` and column `b`. -/
def entry (s : Sym) (a b : Fin 3) : EReal := ![![s.a, s.b, s.c], ![s.b, s.d, s.e], ![s.c, s.e, s.f]] a b

/-- The shifted matrix's determinant along its first row, and the sum of its principal minors of order two. -/
def shiftDet (s : Sym) (l : EReal) : EReal :=
  (s.a - l) * ((s.d - l) * (s.f - l) - s.e * s.e) - s.b * (s.b * (s.f - l) - s.e * s.c)
    + s.c * (s.b * s.e - (s.d - l) * s.c)
def shiftMinors (s : Sym) (l : EReal) : EReal :=
  ((s.d - l) * (s.f - l) - s.e * s.e) + ((s.a - l) * (s.f - l) - s.c * s.c) + ((s.a - l) * (s.d - l) - s.b * s.b)

/-- A Newton step on the shifted matrix's determinant, clipped. -/
def shiftStep (s : Sym) (l : EReal) : EReal :=
  min cCap (max 0 (l - Ideal.div (shiftDet s l) (min (-shiftMinors s l) cNeg)))

theorem cThree_eq : cThree = ((3 : ℝ) : EReal) := by
  simp [cThree, Ideal.ofBits, Ideal.ieee, -EReal.coe_mul]; norm_num

theorem shiftStep_eq {s : Sym} (hs : s.Real) {l : EReal} (hl : IsReal l) :
    shiftStep s l = newt s.tr s.minors s.det l := by
  obtain ⟨a, b, c, d, e, f⟩ := s
  obtain ⟨⟨a, rfl⟩, ⟨b, rfl⟩, ⟨c, rfl⟩, ⟨d, rfl⟩, ⟨e, rfl⟩, ⟨f, rfl⟩⟩ := hs
  obtain ⟨l, rfl⟩ := hl
  unfold shiftStep newt raw shiftDet shiftMinors Sym.tr Sym.minors Sym.det
  simp only [cTwo_eq, cThree_eq, ← EReal.coe_mul, ← EReal.coe_sub, ← EReal.coe_add, ← EReal.coe_neg]
  congr 4
  · congr 1; ring
  · congr 2; ring

theorem shiftSteps_eq {s : Sym} (hs : s.Real) : ∀ n, (shiftStep s)^[n] 0 = (newt s.tr s.minors s.det)^[n] 0
  | 0 => rfl
  | n + 1 => by
    rw [Function.iterate_succ_apply', Function.iterate_succ_apply', shiftSteps_eq hs n,
      shiftStep_eq hs (iter_real hs.tr hs.minors hs.det n)]

/-- An entry of the identity, and of the shifted matrix. -/
def unit (a b : Fin 3) : EReal := if a = b then 1 else 0
def shifted (s : Sym) (l : EReal) (a b : Fin 3) : EReal := entry s a b - l * unit a b

/-- The cross product's entry `k`. -/
def crossAt (u v : Fin 3 → EReal) (k : Fin 3) : EReal :=
  ![u 1 * v 2 - u 2 * v 1, u 2 * v 0 - u 0 * v 2, u 0 * v 1 - u 1 * v 0] k

theorem cross_eq {s : Sym} (hs : s.Real) (j k : Fin 3) :
    crossAt (shifted s s.lam (j + 1)) (shifted s s.lam (j + 2)) k = entry s.proj k j := by
  have hl := hs.lam
  unfold Sym.proj
  generalize s.lam = l at hl
  obtain ⟨a, b, c, d, e, f⟩ := s
  obtain ⟨⟨a, rfl⟩, ⟨b, rfl⟩, ⟨c, rfl⟩, ⟨d, rfl⟩, ⟨e, rfl⟩, ⟨f, rfl⟩⟩ := hs
  obtain ⟨l, rfl⟩ := hl
  fin_cases j <;> fin_cases k <;>
  · simp only [crossAt, shifted, unit, entry, Sym.projAt, Sym.tr, Sym.minors, Fin.isValue, Fin.zero_eta, Fin.mk_one,
      Fin.reduceFinMk, Fin.reduceAdd, Matrix.cons_val, zero_add, Fin.reduceEq, if_true, if_false, mul_one, mul_zero,
      sub_zero, ← EReal.coe_mul, ← EReal.coe_sub, ← EReal.coe_add]
    congr 1
    ring

/-- The sum of a matrix's products with the identity is its trace. -/
theorem trace_eq (s : Sym) : ∑ a, ∑ b, entry s a b * unit a b = s.tr := by
  simp [Fin.sum_univ_three, unit, entry, Sym.tr]

end Cert.Proof

end
-- ==== Proof.Entry.lean ====
/- The reference before its loop: the covariance over its trace, which the loop carries, and the root's first value. -/
module

public import proofs.«01_k».proof.Proof.Nearest
public import proofs.«01_k».proof.Proof.Cofactor

@[expose] public section

set_option maxRecDepth 16384

noncomputable section

namespace Cert.Proof.RefSide

open Idealize.ShloMosaic Idealize.SL.Sem Cert.ReferenceIdeal Cert.ReferenceIdeal.Gen Cert.ReferenceIdeal.Value StableHlo

variable (V : Valuation τ sig (Elt Ideal))

theorem covar_comm (X : Fin 512 → Fin 3 → ℝ) (i : Fin 512) (a b : Fin 3) : covar X i a b = covar X i b a :=
  Finset.sum_congr rfl fun j _ => by ring

theorem covar_entry (X : Fin 512 → Fin 3 → ℝ) (i : Fin 512) (a b : Fin 3) :
    ((covar X i a b : ℝ) : EReal) = entry (covSym X i) a b := by
  fin_cases a <;> fin_cases b
  · rfl
  · rfl
  · rfl
  · exact congrArg _ (covar_comm X i 1 0)
  · rfl
  · rfl
  · exact congrArg _ (covar_comm X i 2 0)
  · exact congrArg _ (covar_comm X i 2 1)
  · rfl

variable {W : Valuation τ sig (Elt Ideal)} {p : Fin 32} {i : Fin 512} {s : Sym}
  (h : ∀ a b, W (Proc.devRef .tc main_v20) (ix4 p i a b) = entry s a b)
include h

omit h in
theorem eye (a b : Fin 3) : FloatOps.uitofp (F := Ideal) FTy.f32
    (IntOp.cmpi .eq (IntOp.addi (BitVec.ofNat 32 a.val) 0#32) (BitVec.ofNat 32 b.val)) = unit a b := by
  fin_cases a <;> fin_cases b <;> simp [unit, FloatOps.uitofp, IntOp.cmpi, IntOp.addi]

theorem v35_eq (a b : Fin 3) : after opsD W (Proc.devRef .tc main_v35) (ix4 p i a b) = entry s.norm a b := by
  simp only [opsD, hostOps0, List.drop_succ_cons, List.drop_zero]
  after_reads_at
  simp only [h, eye, trace_eq]
  fin_cases a <;> fin_cases b <;> rfl

theorem carried0 (a b : Fin 3) : after opsD W (Proc.devRef .tc main_v37_0) (ix4 p i a b) = entry s.norm a b := by
  simp only [opsD, hostOps0, List.drop_succ_cons, List.drop_zero]
  after_reads_at
  simp only [id_eq]
  pointwise
  simp only [h, eye, trace_eq]
  fin_cases a <;> fin_cases b <;> rfl

omit h in
theorem carried3 (p : Fin 32) (i : Fin 512) : after opsD W (Proc.devRef .tc main_v37_3) (ix2 p i) = (0 : EReal) := by
  simp only [opsD, hostOps0, List.drop_succ_cons, List.drop_zero]
  after_reads_at
  exact Ideal.ofBits_zero_f32

end Cert.Proof.RefSide

end
-- ==== Proof.Trips.lean ====
/- The reference's loop: twenty trips bring the root from zero, and what the loop does not write is as it was. -/
module

public import proofs.«01_k».proof.Proof.Entry

@[expose] public section

set_option maxRecDepth 16384

noncomputable section

namespace Cert.Proof.RefSide

open Idealize.ShloMosaic Idealize.SL.Sem Cert.ReferenceIdeal Cert.ReferenceIdeal.Gen Cert.ReferenceIdeal.Value StableHlo

theorem step_apply (V : Valuation τ sig (Elt Ideal)) (p : Fin 32) (i : Fin 512) {s : Sym}
    (h : ∀ a b, V (Proc.devRef .tc main_v37_0) (ix4 p i a b) = entry s a b) :
    step_main_v37_3 V (ix2 p i) = shiftStep s (V (Proc.devRef .tc main_v37_3) (ix2 p i)) := by
  unfold step_main_v37_3
  simp only [id_eq]
  pointwise [res_main_while0b_v106, res_main_while0b_v108, res_main_while0b_v110, res_main_while0b_v112,
    res_main_while0b_v115, res_main_while0b_v117, res_main_while0b_v119, res_main_while0b_v121, res_main_while0b_v124]
  simp only [h]
  rfl

theorem steps (V : Valuation τ sig (Elt Ideal)) (p : Fin 32) (i : Fin 512) {s : Sym}
    (h : ∀ a b, V (Proc.devRef .tc main_v37_0) (ix4 p i a b) = entry s a b) : ∀ k,
    STEP^[k] V (Proc.devRef .tc main_v37_0) = V (Proc.devRef .tc main_v37_0)
    ∧ STEP^[k] V (Proc.devRef .tc main_v37_3) (ix2 p i) = (shiftStep s)^[k] (V (Proc.devRef .tc main_v37_3) (ix2 p i))
  | 0 => ⟨rfl, rfl⟩
  | k + 1 => by
    obtain ⟨h0, h3⟩ := steps V p i h k
    simp only [Function.iterate_succ_apply']
    rw [STEP_main_v37_0, STEP_main_v37_3, step_apply _ p i (by rw [h0]; exact h), h0, h3]
    exact ⟨rfl, rfl⟩

/-- A buffer that neither the loop's body nor its condition writes. -/
theorem trips_keep (V : Dev nD → Valuation τ sig (Elt Ideal)) (c : Dev nD) {r : Ref sig .tc}
    (h : r ∉ while0Ops0_W ∧ r ∉ while0Ops0_1_W ∧ r ∉ while0Ops0_2_W ∧ r ∉ condOps_W) : ∀ k,
    atTrip condOps bodyI V k c (Proc.devRef .tc r) = V c (Proc.devRef .tc r)
  | 0 => rfl
  | k + 1 => by
    simp only [atTrip_succ, afterL_cons, afterL_nil]
    rw [after_of_writes_sub while0Ops0_2 _ while0Ops0_2_writes h.2.2.1,
      after_of_writes_sub while0Ops0_1 _ while0Ops0_1_writes h.2.1,
      after_of_writes_sub while0Ops0 _ while0Ops0_writes h.1,
      after_of_writes_sub condOps _ condOps_writes h.2.2.2]
    exact trips_keep V c h k

variable (m : (ℓ : Loc nD τ sig) → Buf (Elt Ideal) ℓ) (c : Dev nD)

/-- The contents after the loop. -/
def left : Valuation τ sig (Elt Ideal) := after condOps (atTrip condOps bodyI (entryContents preI m) 20 c)

theorem left_keep {r : Ref sig .tc}
    (h : r ∉ while0Ops0_W ∧ r ∉ while0Ops0_1_W ∧ r ∉ while0Ops0_2_W ∧ r ∉ condOps_W) :
    left m c (Proc.devRef .tc r) = entryContents preI m c (Proc.devRef .tc r) := by
  unfold left
  rw [after_of_writes_sub condOps _ condOps_writes h.2.2.2, trips_keep _ c h]

variable {p : Fin 32} {i : Fin 512} {X : Fin 512 → Fin 3 → ℝ}
  (hX : ∀ i k, cloud (m ((c.tc : Thread nD τ).loc main_arg0)) p i k = ((X i k : ℝ) : EReal))
  (hD : Function.Injective (dist2 X i))
include hX hD

theorem entry_eq : ∃ W, entryContents preI m c = after opsD W
    ∧ ∀ a b, W (Proc.devRef .tc main_v20) (ix4 p i a b) = entry (covSym X i) a b := by
  refine ⟨_, (by simp only [entryContents, afterL_cons, afterL_nil]; exact stretches _), fun a b => ?_⟩
  rw [← covar_entry]
  exact v20_eq _ p i a b hX hD

theorem left_v35 (a b : Fin 3) :
    left m c (Proc.devRef .tc main_v35) (ix4 p i a b) = entry (covSym X i).norm a b := by
  obtain ⟨W, hW, h⟩ := entry_eq m c hX hD
  rw [left_keep m c (by decide +kernel), hW]
  exact v35_eq h a b

theorem left_root : left m c (Proc.devRef .tc main_v37_3) (ix2 p i) = rootAt X i := by
  obtain ⟨W, hW, h⟩ := entry_eq m c hX hD
  unfold left
  rw [cond_keeps _ main_v37_3 (by decide)]
  have e := atK_agree m c 20 main_v37_3 (by decide)
  unfold atK at e
  rw [e, hW, (steps _ p i (carried0 h) 20).2, carried3, shiftSteps_eq (covSym_real X i).norm]
  rfl

end Cert.Proof.RefSide

end
-- ==== Proof.Normal.lean ====
/- The reference after its loop: the cross products of two rows of the shifted matrix, and the longest of the three. -/
module

public import proofs.«01_k».proof.Proof.Trips

@[expose] public section

set_option maxRecDepth 16384

noncomputable section

namespace Cert.Proof.RefSide

open Idealize.ShloMosaic Idealize.SL.Sem Cert.ReferenceIdeal Cert.ReferenceIdeal.Gen Cert.ReferenceIdeal.Value StableHlo

variable {L : Valuation τ sig (Elt Ideal)} {p : Fin 32} {i : Fin 512} {s : Sym}

/-! ## The rows -/

theorem v49_eq {l : EReal} (h35 : ∀ a b, L (Proc.devRef .tc main_v35) (ix4 p i a b) = entry s a b)
    (h37 : L (Proc.devRef .tc main_v37_3) (ix2 p i) = l) (a b : Fin 3) :
    after hostOps0_1 L (Proc.devRef .tc main_v49) (ix4 p i a b) = shifted s l a b := by
  unfold hostOps0_1
  after_reads_at
  rw [h35, h37, eye]
  rfl

theorem rows1 {l : EReal} (h35 : ∀ a b, L (Proc.devRef .tc main_v35) (ix4 p i a b) = entry s a b)
    (h37 : L (Proc.devRef .tc main_v37_3) (ix2 p i) = l) (b : Fin 3) :
    after hostOps0_1 L (Proc.devRef .tc main_v51) (ix3 p i b) = shifted s l 1 b
    ∧ after hostOps0_1 L (Proc.devRef .tc main_v53) (ix3 p i b) = shifted s l 2 b := by
  constructor
  · unfold hostOps0_1
    after_reads_at
    rw [h35, h37]
    exact congrArg (fun x => entry s 1 b - l * x) (eye 1 b)
  · unfold hostOps0_1
    after_reads_at
    rw [h35, h37]
    exact congrArg (fun x => entry s 2 b - l * x) (eye 2 b)

theorem rows3 (b : Fin 3) :
    after hostOps0_3 L (Proc.devRef .tc main_v56) (ix3 p i b) = L (Proc.devRef .tc main_v49) (ix4 p i 2 b)
    ∧ after hostOps0_3 L (Proc.devRef .tc main_v58) (ix3 p i b) = L (Proc.devRef .tc main_v49) (ix4 p i 0 b) := by
  constructor <;>
  · unfold hostOps0_3
    after_reads_at

theorem rows5 (b : Fin 3) :
    after hostOps0_5 L (Proc.devRef .tc main_v61) (ix3 p i b) = L (Proc.devRef .tc main_v49) (ix4 p i 0 b)
    ∧ after hostOps0_5 L (Proc.devRef .tc main_v63) (ix3 p i b) = L (Proc.devRef .tc main_v49) (ix4 p i 1 b) := by
  constructor <;>
  · unfold hostOps0_5
    after_reads_at

/-! ## The cross products -/

theorem c1_v21 : after (hostOps0_2.take 24) L (Proc.devRef .tc main_call1_v21) (ix3 0 p i)
    = crossAt (fun j => L (Proc.devRef .tc main_v51) (ix3 p i j)) (fun j => L (Proc.devRef .tc main_v53) (ix3 p i j)) 0 := by
  simp only [hostOps0_2, List.take_succ_cons, List.take_zero]
  after_reads_at
  rfl

theorem c1_v22 : after (hostOps0_2.take 24) L (Proc.devRef .tc main_call1_v22) (ix3 0 p i)
    = crossAt (fun j => L (Proc.devRef .tc main_v51) (ix3 p i j)) (fun j => L (Proc.devRef .tc main_v53) (ix3 p i j)) 1 := by
  simp only [hostOps0_2, List.take_succ_cons, List.take_zero]
  after_reads_at
  rfl

theorem c1_v23 : after (hostOps0_2.take 24) L (Proc.devRef .tc main_call1_v23) (ix3 0 p i)
    = crossAt (fun j => L (Proc.devRef .tc main_v51) (ix3 p i j)) (fun j => L (Proc.devRef .tc main_v53) (ix3 p i j)) 2 := by
  simp only [hostOps0_2, List.take_succ_cons, List.take_zero]
  after_reads_at
  rfl

theorem v54_eq (k : Fin 3) : after hostOps0_2 L (Proc.devRef .tc main_v54) (ix3 p i k)
    = crossAt (fun j => L (Proc.devRef .tc main_v51) (ix3 p i j)) (fun j => L (Proc.devRef .tc main_v53) (ix3 p i j)) k := by
  rw [show after hostOps0_2 L = after (hostOps0_2.drop 24) (after (hostOps0_2.take 24) L) from rfl]
  generalize hM : after (hostOps0_2.take 24) L = M
  have h21 := c1_v21 (L := L) (p := p) (i := i)
  have h22 := c1_v22 (L := L) (p := p) (i := i)
  have h23 := c1_v23 (L := L) (p := p) (i := i)
  rw [hM] at h21 h22 h23
  simp only [hostOps0_2, List.drop_succ_cons, List.drop_zero]
  fin_cases k
  · after_reads_at
    exact h21
  · after_reads_at
    exact h22
  · after_reads_at
    exact h23

theorem c2_v21 : after (hostOps0_4.take 24) L (Proc.devRef .tc main_call2_v21) (ix3 0 p i)
    = crossAt (fun j => L (Proc.devRef .tc main_v56) (ix3 p i j)) (fun j => L (Proc.devRef .tc main_v58) (ix3 p i j)) 0 := by
  simp only [hostOps0_4, List.take_succ_cons, List.take_zero]
  after_reads_at
  rfl

theorem c2_v22 : after (hostOps0_4.take 24) L (Proc.devRef .tc main_call2_v22) (ix3 0 p i)
    = crossAt (fun j => L (Proc.devRef .tc main_v56) (ix3 p i j)) (fun j => L (Proc.devRef .tc main_v58) (ix3 p i j)) 1 := by
  simp only [hostOps0_4, List.take_succ_cons, List.take_zero]
  after_reads_at
  rfl

theorem c2_v23 : after (hostOps0_4.take 24) L (Proc.devRef .tc main_call2_v23) (ix3 0 p i)
    = crossAt (fun j => L (Proc.devRef .tc main_v56) (ix3 p i j)) (fun j => L (Proc.devRef .tc main_v58) (ix3 p i j)) 2 := by
  simp only [hostOps0_4, List.take_succ_cons, List.take_zero]
  after_reads_at
  rfl

theorem v59_eq (k : Fin 3) : after hostOps0_4 L (Proc.devRef .tc main_v59) (ix3 p i k)
    = crossAt (fun j => L (Proc.devRef .tc main_v56) (ix3 p i j)) (fun j => L (Proc.devRef .tc main_v58) (ix3 p i j)) k := by
  rw [show after hostOps0_4 L = after (hostOps0_4.drop 24) (after (hostOps0_4.take 24) L) from rfl]
  generalize hM : after (hostOps0_4.take 24) L = M
  have h21 := c2_v21 (L := L) (p := p) (i := i)
  have h22 := c2_v22 (L := L) (p := p) (i := i)
  have h23 := c2_v23 (L := L) (p := p) (i := i)
  rw [hM] at h21 h22 h23
  simp only [hostOps0_4, List.drop_succ_cons, List.drop_zero]
  fin_cases k
  · after_reads_at
    exact h21
  · after_reads_at
    exact h22
  · after_reads_at
    exact h23

theorem c3_v21 : after (hostOps0_6.take 24) L (Proc.devRef .tc main_call3_v21) (ix3 0 p i)
    = crossAt (fun j => L (Proc.devRef .tc main_v61) (ix3 p i j)) (fun j => L (Proc.devRef .tc main_v63) (ix3 p i j)) 0 := by
  simp only [hostOps0_6, List.take_succ_cons, List.take_zero]
  after_reads_at
  rfl

theorem c3_v22 : after (hostOps0_6.take 24) L (Proc.devRef .tc main_call3_v22) (ix3 0 p i)
    = crossAt (fun j => L (Proc.devRef .tc main_v61) (ix3 p i j)) (fun j => L (Proc.devRef .tc main_v63) (ix3 p i j)) 1 := by
  simp only [hostOps0_6, List.take_succ_cons, List.take_zero]
  after_reads_at
  rfl

theorem c3_v23 : after (hostOps0_6.take 24) L (Proc.devRef .tc main_call3_v23) (ix3 0 p i)
    = crossAt (fun j => L (Proc.devRef .tc main_v61) (ix3 p i j)) (fun j => L (Proc.devRef .tc main_v63) (ix3 p i j)) 2 := by
  simp only [hostOps0_6, List.take_succ_cons, List.take_zero]
  after_reads_at
  rfl

theorem v64_eq (k : Fin 3) : after hostOps0_6 L (Proc.devRef .tc main_v64) (ix3 p i k)
    = crossAt (fun j => L (Proc.devRef .tc main_v61) (ix3 p i j)) (fun j => L (Proc.devRef .tc main_v63) (ix3 p i j)) k := by
  rw [show after hostOps0_6 L = after (hostOps0_6.drop 24) (after (hostOps0_6.take 24) L) from rfl]
  generalize hM : after (hostOps0_6.take 24) L = M
  have h21 := c3_v21 (L := L) (p := p) (i := i)
  have h22 := c3_v22 (L := L) (p := p) (i := i)
  have h23 := c3_v23 (L := L) (p := p) (i := i)
  rw [hM] at h21 h22 h23
  simp only [hostOps0_6, List.drop_succ_cons, List.drop_zero]
  fin_cases k
  · after_reads_at
    exact h21
  · after_reads_at
    exact h22
  · after_reads_at
    exact h23

/-- The contents after the three cross products. -/
def crossed (L : Valuation τ sig (Elt Ideal)) : Valuation τ sig (Elt Ideal) :=
  after hostOps0_6 (after hostOps0_5 (after hostOps0_4 (after hostOps0_3 (after hostOps0_2 (after hostOps0_1 L)))))

/-- The cross products are the projection's columns. -/
theorem crosses (hs : s.Real) (h35 : ∀ a b, L (Proc.devRef .tc main_v35) (ix4 p i a b) = entry s a b)
    (h37 : L (Proc.devRef .tc main_v37_3) (ix2 p i) = s.lam) (k : Fin 3) :
    crossed L (Proc.devRef .tc main_v54) (ix3 p i k) = entry s.proj k 0
    ∧ crossed L (Proc.devRef .tc main_v59) (ix3 p i k) = entry s.proj k 1
    ∧ crossed L (Proc.devRef .tc main_v64) (ix3 p i k) = entry s.proj k 2 := by
  have h49 := v49_eq h35 h37
  unfold crossed
  refine ⟨?_, ?_, ?_⟩
  · rw [hostOps0_6_keep _ (by decide +kernel), hostOps0_5_keep _ (by decide +kernel), hostOps0_4_keep _ (by decide +kernel),
      hostOps0_3_keep _ (by decide +kernel), v54_eq]
    simp only [(rows1 h35 h37 _).1, (rows1 h35 h37 _).2]
    exact cross_eq hs 0 k
  · rw [hostOps0_6_keep _ (by decide +kernel), hostOps0_5_keep _ (by decide +kernel), v59_eq]
    simp only [(rows3 _).1, (rows3 _).2]
    rw [hostOps0_2_keep _ (by decide +kernel)]
    simp only [h49]
    exact cross_eq hs 1 k
  · rw [v64_eq]
    simp only [(rows5 _).1, (rows5 _).2]
    rw [hostOps0_4_keep _ (by decide +kernel), hostOps0_3_keep _ (by decide +kernel), hostOps0_2_keep _ (by decide +kernel)]
    simp only [h49]
    exact cross_eq hs 2 k

/-! ## The longest -/

section Flags

variable (h54 : ∀ k, L (Proc.devRef .tc main_v54) (ix3 p i k) = entry s k 0)
  (h59 : ∀ k, L (Proc.devRef .tc main_v59) (ix3 p i k) = entry s k 1)
  (h64 : ∀ k, L (Proc.devRef .tc main_v64) (ix3 p i k) = entry s k 2)
include h54 h59 h64

theorem flag1 : after hostOps0_7 L (Proc.devRef .tc main_v76) (ix3 p i 0)
    = IntOp.andi (Ideal.cmp .oge s.len1 s.len2) (Ideal.cmp .oge s.len1 s.len3) := by
  unfold hostOps0_7
  after_reads_at
  simp only [h54, h59, h64, Fin.sum_univ_three]
  rfl

omit h54 in
theorem flag2 : after hostOps0_7 L (Proc.devRef .tc main_v77) (ix3 p i 0) = Ideal.cmp .oge s.len2 s.len3 := by
  unfold hostOps0_7
  after_reads_at
  simp only [h59, h64, Fin.sum_univ_three]
  rfl

end Flags

theorem v78_eq (k : Fin 3) : after hostOps0_8 L (Proc.devRef .tc main_v78) (ix3 p i k)
    = Scalar.select (L (Proc.devRef .tc main_v77) (ix3 p i 0)) (L (Proc.devRef .tc main_v59) (ix3 p i k))
        (L (Proc.devRef .tc main_v64) (ix3 p i k)) := by
  unfold hostOps0_8
  after_reads_at

theorem v79_eq (k : Fin 3) : after hostOps0_9 L (Proc.devRef .tc main_v79) (ix3 p i k)
    = Scalar.select (L (Proc.devRef .tc main_v76) (ix3 p i 0)) (L (Proc.devRef .tc main_v54) (ix3 p i k))
        (L (Proc.devRef .tc main_v78) (ix3 p i k)) := by
  unfold hostOps0_9
  after_reads_at

theorem col_eq (k : Fin 3) :
    Scalar.select (IntOp.andi (Ideal.cmp .oge s.len1 s.len2) (Ideal.cmp .oge s.len1 s.len3)) (entry s k 0)
      (Scalar.select (Ideal.cmp .oge s.len2 s.len3) (entry s k 1) (entry s k 2)) = s.col k := by
  unfold Sym.col
  by_cases h1 : s.len2 ≤ s.len1 <;> by_cases h2 : s.len3 ≤ s.len1 <;> by_cases h3 : s.len3 ≤ s.len2 <;>
    simp [Scalar.select, IntOp.andi, Ideal.cmp, h1, h2, h3] <;> fin_cases k <;> rfl

/-- The longest cross product. -/
theorem longest (hs : s.Real) (h35 : ∀ a b, L (Proc.devRef .tc main_v35) (ix4 p i a b) = entry s a b)
    (h37 : L (Proc.devRef .tc main_v37_3) (ix2 p i) = s.lam) (k : Fin 3) :
    after hostOps0_9 (after hostOps0_8 (after hostOps0_7 (crossed L))) (Proc.devRef .tc main_v79) (ix3 p i k)
      = s.proj.col k := by
  have h54 := fun k => (crosses hs h35 h37 k).1
  have h59 := fun k => (crosses hs h35 h37 k).2.1
  have h64 := fun k => (crosses hs h35 h37 k).2.2
  rw [v79_eq, v78_eq, hostOps0_8_keep _ (r := main_v76) (by decide +kernel),
    hostOps0_8_keep _ (r := main_v54) (by decide +kernel), flag1 h54 h59 h64, flag2 h59 h64,
    hostOps0_7_keep _ (r := main_v54) (by decide +kernel), hostOps0_7_keep _ (r := main_v59) (by decide +kernel),
    hostOps0_7_keep _ (r := main_v64) (by decide +kernel), h54, h59, h64, col_eq]

theorem root_keep : after hostOps0_9 (after hostOps0_8 (after hostOps0_7 (crossed L))) (Proc.devRef .tc main_v37_3)
    = L (Proc.devRef .tc main_v37_3) := by
  unfold crossed
  rw [hostOps0_9_keep _ (by decide +kernel), hostOps0_8_keep _ (by decide +kernel), hostOps0_7_keep _ (by decide +kernel),
    hostOps0_6_keep _ (by decide +kernel), hostOps0_5_keep _ (by decide +kernel), hostOps0_4_keep _ (by decide +kernel),
    hostOps0_3_keep _ (by decide +kernel), hostOps0_2_keep _ (by decide +kernel), hostOps0_1_keep _ (by decide +kernel)]

end Cert.Proof.RefSide

end
-- ==== Proof.Result.lean ====
/- The reference's result: the variance of the normals and the mean root. -/
module

public import proofs.«01_k».proof.Proof.Normal

@[expose] public section

set_option maxRecDepth 16384

noncomputable section

namespace Cert.Proof.RefSide

open Idealize.ShloMosaic Idealize.SL.Sem Cert.ReferenceIdeal Cert.ReferenceIdeal.Gen Cert.ReferenceIdeal.Value StableHlo

/-- The operations up to the normals in their layout, and from them to the result. -/
abbrev opsG : List (HloOp τ sig (Elt Ideal)) := hostOps0_10.take 12
abbrev opsH : List (HloOp τ sig (Elt Ideal)) := hostOps0_10.drop 12

variable {L : Valuation τ sig (Elt Ideal)}

theorem patch_lt (x : Fin 2) (y : Fin 16) : x.val * 16 + y.val < 32 := by omega

theorem v89_eq {x : Fin 2} {y : Fin 16} {i : Fin 512} {s : Sym} (hs : s.Real)
    (h : ∀ k, L (Proc.devRef .tc main_v79) (ix3 ⟨x.val * 16 + y.val, patch_lt x y⟩ i k) = s.col k) (k : Fin 3) :
    after opsG L (Proc.devRef .tc main_v89) (ix4 x y i k) = s.dir k := by
  simp only [opsG, hostOps0_10, List.take_succ_cons, List.take_zero]
  after_reads_at
  simp only [h, Fin.sum_univ_three]
  rw [hs.dir_eq]
  rfl

theorem sum_patches (G : Fin 32 → EReal) :
    ∑ x : Fin 2, ∑ y : Fin 16, G ⟨x.val * 16 + y.val, patch_lt x y⟩ = ∑ p, G p := by
  rw [← Fintype.sum_prod_type']
  refine Fintype.sum_equiv (finProdFinEquiv (m := 2) (n := 16)) _ _ fun a => congrArg G (Fin.ext ?_)
  show a.1.val * 16 + a.2.val = a.2.val + 16 * a.1.val
  omega

theorem sum_spread (n : Fin 512 → Fin 3 → EReal) :
    ∑ i, ∑ k, (n i k - Ideal.div (∑ l, n l k) cLen) * (n i k - Ideal.div (∑ l, n l k) cLen)
      = spread (fun i => n i 0) + spread (fun i => n i 1) + spread (fun i => n i 2) := by
  rw [Finset.sum_comm, Fin.sum_univ_three]
  rfl

theorem v102_eq {X : Fin 32 → Fin 512 → Fin 3 → ℝ}
    (hn : ∀ x y i k, L (Proc.devRef .tc main_v89) (ix4 x y i k) = normalAt (X ⟨x.val * 16 + y.val, patch_lt x y⟩) k i)
    (hl : ∀ p i, L (Proc.devRef .tc main_v37_3) (ix2 p i) = rootAt (X p) i) (j : S_.Idx) :
    after opsH L (Proc.devRef .tc main_v102) j = loss X := by
  simp only [opsH, hostOps0_10, List.drop_succ_cons, List.drop_zero]
  after_reads_at
  rw [Ideal.hostReduceAdd_total _ (fun b => b.elim0), sum_idx4]
  pointwise
  simp only [hn, hl]
  unfold loss
  refine congr (congrArg _ (congrArg (fun e => Ideal.div e _) ?_)) (congrArg (fun e => Ideal.div e _) ?_)
  · rw [← sum_patches]
    refine Finset.sum_congr rfl fun x _ => Finset.sum_congr rfl fun y _ => ?_
    exact sum_spread fun i k => normalAt (X ⟨x.val * 16 + y.val, patch_lt x y⟩) k i
  · exact sum_patches fun p => ∑ i, rootAt (X p) i

variable (m : (ℓ : Loc nD τ sig) → Buf (Elt Ideal) ℓ) (c : Dev nD)

theorem opsG_keep : after opsG L (Proc.devRef .tc main_v37_3) = L (Proc.devRef .tc main_v37_3) := by
  funext j
  idx_vars j
  simp only [opsG, hostOps0_10, List.take_succ_cons, List.take_zero]
  after_reads_at

/-- The reference's result on a real cloud whose distances differ. -/
theorem result {X : Fin 32 → Fin 512 → Fin 3 → ℝ}
    (hX : ∀ p i k, cloud (m ((c.tc : Thread nD τ).loc main_arg0)) p i k = ((X p i k : ℝ) : EReal))
    (hD : ∀ p i, Function.Injective (dist2 (X p) i)) :
    finalContents condOps preI bodyI postI 20 m c (Proc.devRef .tc main_v102) = (fun _ => loss (X) : Vec Ideal S_ .f32) := by
  have e : finalContents condOps preI bodyI postI 20 m c
      = after opsH (after opsG (after hostOps0_9 (after hostOps0_8 (after hostOps0_7 (crossed (left m c)))))) := by
    simp only [finalContents, afterL_cons, afterL_nil]
    rfl
  rw [e]
  funext j
  refine v102_eq (fun x y i k => v89_eq ((covSym_real _ i).norm.proj) (longest (covSym_real _ i).norm
    (fun a b => left_v35 m c (hX _) (hD _ i) a b) (left_root m c (hX _) (hD _ i))) k) (fun p i => ?_) j
  rw [opsG_keep, root_keep]
  exact left_root m c (hX p) (hD p i)

end Cert.Proof.RefSide

end
-- ==== Proof.lean ====
module

public import proofs.«01_k».proof.Defs
public import proofs.«01_k».proof.Proof.Apart
public import proofs.«01_k».proof.Proof.Frames
public import proofs.«01_k».proof.Proof.KernelRun
public import proofs.«01_k».proof.Proof.Result

@[expose] public section

noncomputable section

namespace Cert.Proof

open Idealize.ShloMosaic Idealize.SL.Sem

/-- On equal clouds that satisfy the precondition, the kernel's and the reference's result is the loss. -/
theorem same_loss : Cert.algebraic_KernelIdeal_ReferenceIdeal_pre_finite_and_apart := by
  intro m g m' g' hpre hagree
  choose X hX using fun c => points (hpre c).1
  have hD : ∀ c p i, Function.Injective (dist2 (X c p) i) := fun c p i => apart (hpre c).2 (hX c p) i
  refine ⟨fun c => (fun _ => loss (X c) : Vec Ideal Cert.KernelIdeal.S_ .f32), ?_, ?_⟩
  · exact (θ_run _ _ _).mono (fun r h c => ⟨h.1 c, h.2 c⟩)
      (θ_run_and (kernel_run m g hX hD) (Cert.KernelIdeal.Gen.unchanged m g))
  · refine (θ_run _ _ _).mono (fun r h c => ⟨(h.1 c).2.trans ?_, (h.1 c).1⟩) (ref_run m' g')
    exact RefSide.result m' c (fun p i k => by rw [hagree c]; exact hX c p i k) (hD c)

theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g,
    fun m g _ => (θ_run _ _ _).mono (fun r h => ⟨fun c => (h.1 c).1, h.2⟩) (ref_run m g),
    fun m g _ => (θ_run _ _ _).mono (fun r h => ⟨fun c => (h.1 c).1, h.2⟩) (ref_run m g), trivial,
    same_loss⟩

end Cert.Proof

end
